-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_even [hPre_finite_and_even : Cert.Pre_finite_and_even.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_even.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_even [hPre_finite_and_even : Cert.Pre_finite_and_even.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_even.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_even [hKernelIdeal : Cert.KernelIdeal.Facts] [hPre_finite_and_even : Cert.Pre_finite_and_even.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_even m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_even [hReferenceIdeal : Cert.ReferenceIdeal.Facts] [hPre_finite_and_even : Cert.Pre_finite_and_even.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_even m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_even [hKernelIdeal : Cert.KernelIdeal.Facts] [hReferenceIdeal : Cert.ReferenceIdeal.Facts] [hPre_finite_and_even : Cert.Pre_finite_and_even.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_even m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_even : Cert.Pre_finite_and_even.Facts),
    quiescent_Kernel (hKernel := hKernel)
    ∧ quiescent_KernelIdeal (hKernelIdeal := hKernelIdeal)
    ∧ quiescent_KernelIdeal_pre_finite_and_even (hKernelIdeal := hKernelIdeal) (hPre_finite_and_even := hPre_finite_and_even)
    ∧ quiescent_ReferenceIdeal (hReferenceIdeal := hReferenceIdeal)
    ∧ quiescent_ReferenceIdeal_pre_finite_and_even (hReferenceIdeal := hReferenceIdeal) (hPre_finite_and_even := hPre_finite_and_even)
    ∧ preserves_Kernel_KernelIdeal
    ∧ algebraic_KernelIdeal_ReferenceIdeal_pre_finite_and_even (hKernelIdeal := hKernelIdeal) (hReferenceIdeal := hReferenceIdeal) (hPre_finite_and_even := hPre_finite_and_even)
-- ==== Pre_finite_and_even.lean ====
abbrev S2x3x512x512 : Shape := ⟨4, ![2, 3, 512, 512]⟩
abbrev S13 : Shape := ⟨1, ![13]⟩
abbrev S61 : Shape := ⟨1, ![61]⟩
abbrev S_ : Shape := ⟨0, ![]⟩

class Facts : Prop where
  bcast_S_S2x3x512x512 : S_.BroadcastsInDim S2x3x512x512 (![] : Fin 0 → Fin S2x3x512x512.rank)
  reducesTo_S2x3x512x512_S_d0_1_2_3 : S2x3x512x512.ReducesTo [0, 1, 2, 3] S_
  h_S_ : 0 < S_.numel
  bcast_S_S13 : S_.BroadcastsInDim S13 (![] : Fin 0 → Fin S13.rank)
  reducesTo_S13_S_d0 : S13.ReducesTo [0] S_
  bcast_S_S61 : S_.BroadcastsInDim S61 (![] : Fin 0 → Fin S61.rank)
  reducesTo_S61_S_d0 : S61.ReducesTo [0] S_

variable [Facts]

def fn_part1 {F : FTy → Type} [FloatOps F] (main_arg2 : FVec F S13 .f32) (main_arg4 : FVec F S13 .f32) (main_v13 : IVec S_ 1) (main_v16 : IVec S61 1) : IVec S_ 1 :=
  let main_c_5 : IVec S_ 1 := constantI S_ 1 1#1
  let main_v17 : IVec S_ 1 := (fun x v => Host.reduce IntOp.andi x v reducesTo_S61_S_d0 h_S_) main_v16 main_c_5
  let main_v18 : IVec S_ 1 := andi main_v13 main_v17
  let main_v19 : FVec F S13 .f32 := Host.absf main_arg4
  let main_cst_6 : FVec F S_ .f32 := constant S_ .f32 0x7F800000#32
  let main_v20 : FVec F S13 .f32 := broadcastInDim S13 ![] bcast_S_S13 main_cst_6
  let main_v21 : IVec S13 1 := cmpf .olt main_v19 main_v20
  let main_c_7 : IVec S_ 1 := constantI S_ 1 1#1
  let main_v22 : IVec S_ 1 := (fun x v => Host.reduce IntOp.andi x v reducesTo_S13_S_d0 h_S_) main_v21 main_c_7
  let main_v23 : IVec S_ 1 := andi main_v18 main_v22
  let main_v24 : FVec F S13 .f32 := Host.reverse [0] main_arg2
  let main_v25 : IVec S13 1 := cmpf .oeq main_arg2 main_v24
  let main_c_8 : IVec S_ 1 := constantI S_ 1 1#1
  let main_v26 : IVec S_ 1 := (fun x v => Host.reduce IntOp.andi x v reducesTo_S13_S_d0 h_S_) main_v25 main_c_8
  let main_v27 : IVec S_ 1 := andi main_v23 main_v26
  let main_v28 : FVec F S13 .f32 := Host.reverse [0] main_arg4
  let main_v29 : IVec S13 1 := cmpf .oeq main_arg4 main_v28
  let main_c_9 : IVec S_ 1 := constantI S_ 1 1#1
  let main_v30 : IVec S_ 1 := (fun x v => Host.reduce IntOp.andi x v reducesTo_S13_S_d0 h_S_) main_v29 main_c_9
  let main_v31 : IVec S_ 1 := andi main_v27 main_v30
  main_v31

def fn {F : FTy → Type} [FloatOps F] (main_arg0 : FVec F S2x3x512x512 .f32) (main_arg1 : FVec F S13 .f32) (main_arg2 : FVec F S13 .f32) (main_arg3 : FVec F S61 .f32) (main_arg4 : FVec F S13 .f32) : IVec S_ 1 :=
  let main_v0 : FVec F S2x3x512x512 .f32 := Host.absf main_arg0
  let main_cst : FVec F S_ .f32 := constant S_ .f32 0x7F800000#32
  let main_v1 : FVec F S2x3x512x512 .f32 := broadcastInDim S2x3x512x512 ![] bcast_S_S2x3x512x512 main_cst
  let main_v2 : IVec S2x3x512x512 1 := cmpf .olt main_v0 main_v1
  let main_c : IVec S_ 1 := constantI S_ 1 1#1
  let main_v3 : IVec S_ 1 := (fun x v => Host.reduce IntOp.andi x v reducesTo_S2x3x512x512_S_d0_1_2_3 h_S_) main_v2 main_c
  let main_v4 : FVec F S13 .f32 := Host.absf main_arg1
  let main_cst_0 : FVec F S_ .f32 := constant S_ .f32 0x7F800000#32
  let main_v5 : FVec F S13 .f32 := broadcastInDim S13 ![] bcast_S_S13 main_cst_0
  let main_v6 : IVec S13 1 := cmpf .olt main_v4 main_v5
  let main_c_1 : IVec S_ 1 := constantI S_ 1 1#1
  let main_v7 : IVec S_ 1 := (fun x v => Host.reduce IntOp.andi x v reducesTo_S13_S_d0 h_S_) main_v6 main_c_1
  let main_v8 : IVec S_ 1 := andi main_v3 main_v7
  let main_v9 : FVec F S13 .f32 := Host.absf main_arg2
  let main_cst_2 : FVec F S_ .f32 := constant S_ .f32 0x7F800000#32
  let main_v10 : FVec F S13 .f32 := broadcastInDim S13 ![] bcast_S_S13 main_cst_2
  let main_v11 : IVec S13 1 := cmpf .olt main_v9 main_v10
  let main_c_3 : IVec S_ 1 := constantI S_ 1 1#1
  let main_v12 : IVec S_ 1 := (fun x v => Host.reduce IntOp.andi x v reducesTo_S13_S_d0 h_S_) main_v11 main_c_3
  let main_v13 : IVec S_ 1 := andi main_v8 main_v12
  let main_v14 : FVec F S61 .f32 := Host.absf main_arg3
  let main_cst_4 : FVec F S_ .f32 := constant S_ .f32 0x7F800000#32
  let main_v15 : FVec F S61 .f32 := broadcastInDim S61 ![] bcast_S_S61 main_cst_4
  let main_v16 : IVec S61 1 := cmpf .olt main_v14 main_v15
  fn_part1 (F := F) main_arg2 main_arg4 main_v13 main_v16
-- ==== Kernel.lean ====
abbrev S2x3x512x512 : Shape := ⟨4, ![2, 3, 512, 512]⟩
abbrev S13 : Shape := ⟨1, ![13]⟩
abbrev S61 : Shape := ⟨1, ![61]⟩
abbrev S_ : Shape := ⟨0, ![]⟩
abbrev S128x140 : Shape := ⟨2, ![128, 140]⟩
abbrev S1 : Shape := ⟨1, ![1]⟩
abbrev S140x128 : Shape := ⟨2, ![140, 128]⟩
abbrev S2x3x528x640 : Shape := ⟨4, ![2, 3, 528, 640]⟩
abbrev S32x32 : Shape := ⟨2, ![32, 32]⟩
abbrev S2x512x512 : Shape := ⟨3, ![2, 512, 512]⟩
abbrev S1x3x144x256 : Shape := ⟨4, ![1, 3, 144, 256]⟩
abbrev S1x128x128 : Shape := ⟨3, ![1, 128, 128]⟩
abbrev S1x1x144x256 : Shape := ⟨4, ![1, 1, 144, 256]⟩
abbrev S144x256 : Shape := ⟨2, ![144, 256]⟩
abbrev S140x140 : Shape := ⟨2, ![140, 140]⟩
abbrev S128x128 : Shape := ⟨2, ![128, 128]⟩
abbrev S32x128x128 : Shape := ⟨3, ![32, 128, 128]⟩
abbrev S128x188 : Shape := ⟨2, ![128, 188]⟩
abbrev S188x128 : Shape := ⟨2, ![188, 128]⟩
abbrev S2x576x640 : Shape := ⟨3, ![2, 576, 640]⟩
abbrev S1x192x256 : Shape := ⟨3, ![1, 192, 256]⟩
abbrev S1x3x128x128 : Shape := ⟨4, ![1, 3, 128, 128]⟩
abbrev S192x256 : Shape := ⟨2, ![192, 256]⟩
abbrev S188x188 : Shape := ⟨2, ![188, 188]⟩
abbrev S3x128x128 : Shape := ⟨3, ![3, 128, 128]⟩

abbrev nBuf : Space → Nat
  | .hbm => 1231
  | .vmem => 22
  | .smem => 0
  | _ => 0

abbrev hbmTy0_0 (i : Nat) : BufTy := match i % 128 with
  | 0 => ⟨S2x3x512x512, .f32⟩
  | 1 => ⟨S13, .f32⟩
  | 2 => ⟨S13, .f32⟩
  | 3 => ⟨S61, .f32⟩
  | 4 => ⟨S13, .f32⟩
  | 5 => ⟨S_, .f32⟩
  | 6 => ⟨S128x140, .f32⟩
  | 7 => ⟨S1, .f32⟩
  | 8 => ⟨S_, .f32⟩
  | 9 => ⟨S128x140, .i32⟩
  | 10 => ⟨S128x140, .i32⟩
  | 11 => ⟨S_, .i32⟩
  | 12 => ⟨S128x140, .i32⟩
  | 13 => ⟨S128x140, .i32⟩
  | 14 => ⟨S128x140, .i1⟩
  | 15 => ⟨S128x140, .f32⟩
  | 16 => ⟨S128x140, .f32⟩
  | 17 => ⟨S128x140, .f32⟩
  | 18 => ⟨S128x140, .f32⟩
  | 19 => ⟨S1, .f32⟩
  | 20 => ⟨S_, .f32⟩
  | 21 => ⟨S128x140, .i32⟩
  | 22 => ⟨S128x140, .i32⟩
  | 23 => ⟨S_, .i32⟩
  | 24 => ⟨S128x140, .i32⟩
  | 25 => ⟨S128x140, .i32⟩
  | 26 => ⟨S128x140, .i1⟩
  | 27 => ⟨S128x140, .f32⟩
  | 28 => ⟨S128x140, .f32⟩
  | 29 => ⟨S128x140, .f32⟩
  | 30 => ⟨S128x140, .f32⟩
  | 31 => ⟨S1, .f32⟩
  | 32 => ⟨S_, .f32⟩
  | 33 => ⟨S128x140, .i32⟩
  | 34 => ⟨S128x140, .i32⟩
  | 35 => ⟨S_, .i32⟩
  | 36 => ⟨S128x140, .i32⟩
  | 37 => ⟨S128x140, .i32⟩
  | 38 => ⟨S128x140, .i1⟩
  | 39 => ⟨S128x140, .f32⟩
  | 40 => ⟨S128x140, .f32⟩
  | 41 => ⟨S128x140, .f32⟩
  | 42 => ⟨S128x140, .f32⟩
  | 43 => ⟨S1, .f32⟩
  | 44 => ⟨S_, .f32⟩
  | 45 => ⟨S128x140, .i32⟩
  | 46 => ⟨S128x140, .i32⟩
  | 47 => ⟨S_, .i32⟩
  | 48 => ⟨S128x140, .i32⟩
  | 49 => ⟨S128x140, .i32⟩
  | 50 => ⟨S128x140, .i1⟩
  | 51 => ⟨S128x140, .f32⟩
  | 52 => ⟨S128x140, .f32⟩
  | 53 => ⟨S128x140, .f32⟩
  | 54 => ⟨S128x140, .f32⟩
  | 55 => ⟨S1, .f32⟩
  | 56 => ⟨S_, .f32⟩
  | 57 => ⟨S128x140, .i32⟩
  | 58 => ⟨S128x140, .i32⟩
  | 59 => ⟨S_, .i32⟩
  | 60 => ⟨S128x140, .i32⟩
  | 61 => ⟨S128x140, .i32⟩
  | 62 => ⟨S128x140, .i1⟩
  | 63 => ⟨S128x140, .f32⟩
  | 64 => ⟨S128x140, .f32⟩
  | 65 => ⟨S128x140, .f32⟩
  | 66 => ⟨S128x140, .f32⟩
  | 67 => ⟨S1, .f32⟩
  | 68 => ⟨S_, .f32⟩
  | 69 => ⟨S128x140, .i32⟩
  | 70 => ⟨S128x140, .i32⟩
  | 71 => ⟨S_, .i32⟩
  | 72 => ⟨S128x140, .i32⟩
  | 73 => ⟨S128x140, .i32⟩
  | 74 => ⟨S128x140, .i1⟩
  | 75 => ⟨S128x140, .f32⟩
  | 76 => ⟨S128x140, .f32⟩
  | 77 => ⟨S128x140, .f32⟩
  | 78 => ⟨S128x140, .f32⟩
  | 79 => ⟨S1, .f32⟩
  | 80 => ⟨S_, .f32⟩
  | 81 => ⟨S128x140, .i32⟩
  | 82 => ⟨S128x140, .i32⟩
  | 83 => ⟨S_, .i32⟩
  | 84 => ⟨S128x140, .i32⟩
  | 85 => ⟨S128x140, .i32⟩
  | 86 => ⟨S128x140, .i1⟩
  | 87 => ⟨S128x140, .f32⟩
  | 88 => ⟨S128x140, .f32⟩
  | 89 => ⟨S128x140, .f32⟩
  | 90 => ⟨S128x140, .f32⟩
  | 91 => ⟨S1, .f32⟩
  | 92 => ⟨S_, .f32⟩
  | 93 => ⟨S128x140, .i32⟩
  | 94 => ⟨S128x140, .i32⟩
  | 95 => ⟨S_, .i32⟩
  | 96 => ⟨S128x140, .i32⟩
  | 97 => ⟨S128x140, .i32⟩
  | 98 => ⟨S128x140, .i1⟩
  | 99 => ⟨S128x140, .f32⟩
  | 100 => ⟨S128x140, .f32⟩
  | 101 => ⟨S128x140, .f32⟩
  | 102 => ⟨S128x140, .f32⟩
  | 103 => ⟨S1, .f32⟩
  | 104 => ⟨S_, .f32⟩
  | 105 => ⟨S128x140, .i32⟩
  | 106 => ⟨S128x140, .i32⟩
  | 107 => ⟨S_, .i32⟩
  | 108 => ⟨S128x140, .i32⟩
  | 109 => ⟨S128x140, .i32⟩
  | 110 => ⟨S128x140, .i1⟩
  | 111 => ⟨S128x140, .f32⟩
  | 112 => ⟨S128x140, .f32⟩
  | 113 => ⟨S128x140, .f32⟩
  | 114 => ⟨S128x140, .f32⟩
  | 115 => ⟨S1, .f32⟩
  | 116 => ⟨S_, .f32⟩
  | 117 => ⟨S128x140, .i32⟩
  | 118 => ⟨S128x140, .i32⟩
  | 119 => ⟨S_, .i32⟩
  | 120 => ⟨S128x140, .i32⟩
  | 121 => ⟨S128x140, .i32⟩
  | 122 => ⟨S128x140, .i1⟩
  | 123 => ⟨S128x140, .f32⟩
  | 124 => ⟨S128x140, .f32⟩
  | 125 => ⟨S128x140, .f32⟩
  | 126 => ⟨S128x140, .f32⟩
  | 127 => ⟨S1, .f32⟩
  | _ => ⟨S2x3x512x512, .f32⟩

abbrev hbmTy0_1 (i : Nat) : BufTy := match i % 128 with
  | 0 => ⟨S_, .f32⟩
  | 1 => ⟨S128x140, .i32⟩
  | 2 => ⟨S128x140, .i32⟩
  | 3 => ⟨S_, .i32⟩
  | 4 => ⟨S128x140, .i32⟩
  | 5 => ⟨S128x140, .i32⟩
  | 6 => ⟨S128x140, .i1⟩
  | 7 => ⟨S128x140, .f32⟩
  | 8 => ⟨S128x140, .f32⟩
  | 9 => ⟨S128x140, .f32⟩
  | 10 => ⟨S128x140, .f32⟩
  | 11 => ⟨S1, .f32⟩
  | 12 => ⟨S_, .f32⟩
  | 13 => ⟨S128x140, .i32⟩
  | 14 => ⟨S128x140, .i32⟩
  | 15 => ⟨S_, .i32⟩
  | 16 => ⟨S128x140, .i32⟩
  | 17 => ⟨S128x140, .i32⟩
  | 18 => ⟨S128x140, .i1⟩
  | 19 => ⟨S128x140, .f32⟩
  | 20 => ⟨S128x140, .f32⟩
  | 21 => ⟨S128x140, .f32⟩
  | 22 => ⟨S128x140, .f32⟩
  | 23 => ⟨S1, .f32⟩
  | 24 => ⟨S_, .f32⟩
  | 25 => ⟨S128x140, .i32⟩
  | 26 => ⟨S128x140, .i32⟩
  | 27 => ⟨S_, .i32⟩
  | 28 => ⟨S128x140, .i32⟩
  | 29 => ⟨S128x140, .i32⟩
  | 30 => ⟨S128x140, .i1⟩
  | 31 => ⟨S128x140, .f32⟩
  | 32 => ⟨S128x140, .f32⟩
  | 33 => ⟨S128x140, .f32⟩
  | 34 => ⟨S128x140, .f32⟩
  | 35 => ⟨S140x128, .f32⟩
  | 36 => ⟨S_, .i32⟩
  | 37 => ⟨S_, .f32⟩
  | 38 => ⟨S2x3x528x640, .f32⟩
  | 39 => ⟨S_, .f32⟩
  | 40 => ⟨S32x32, .f32⟩
  | 41 => ⟨S1, .f32⟩
  | 42 => ⟨S_, .f32⟩
  | 43 => ⟨S32x32, .i32⟩
  | 44 => ⟨S32x32, .i32⟩
  | 45 => ⟨S_, .i32⟩
  | 46 => ⟨S32x32, .i32⟩
  | 47 => ⟨S32x32, .i32⟩
  | 48 => ⟨S32x32, .i1⟩
  | 49 => ⟨S32x32, .f32⟩
  | 50 => ⟨S32x32, .f32⟩
  | 51 => ⟨S32x32, .f32⟩
  | 52 => ⟨S32x32, .f32⟩
  | 53 => ⟨S1, .f32⟩
  | 54 => ⟨S_, .f32⟩
  | 55 => ⟨S32x32, .i32⟩
  | 56 => ⟨S32x32, .i32⟩
  | 57 => ⟨S_, .i32⟩
  | 58 => ⟨S32x32, .i32⟩
  | 59 => ⟨S32x32, .i32⟩
  | 60 => ⟨S32x32, .i1⟩
  | 61 => ⟨S32x32, .f32⟩
  | 62 => ⟨S32x32, .f32⟩
  | 63 => ⟨S32x32, .f32⟩
  | 64 => ⟨S32x32, .f32⟩
  | 65 => ⟨S1, .f32⟩
  | 66 => ⟨S_, .f32⟩
  | 67 => ⟨S32x32, .i32⟩
  | 68 => ⟨S32x32, .i32⟩
  | 69 => ⟨S_, .i32⟩
  | 70 => ⟨S32x32, .i32⟩
  | 71 => ⟨S32x32, .i32⟩
  | 72 => ⟨S32x32, .i1⟩
  | 73 => ⟨S32x32, .f32⟩
  | 74 => ⟨S32x32, .f32⟩
  | 75 => ⟨S32x32, .f32⟩
  | 76 => ⟨S32x32, .f32⟩
  | 77 => ⟨S1, .f32⟩
  | 78 => ⟨S_, .f32⟩
  | 79 => ⟨S32x32, .i32⟩
  | 80 => ⟨S32x32, .i32⟩
  | 81 => ⟨S_, .i32⟩
  | 82 => ⟨S32x32, .i32⟩
  | 83 => ⟨S32x32, .i32⟩
  | 84 => ⟨S32x32, .i1⟩
  | 85 => ⟨S32x32, .f32⟩
  | 86 => ⟨S32x32, .f32⟩
  | 87 => ⟨S32x32, .f32⟩
  | 88 => ⟨S32x32, .f32⟩
  | 89 => ⟨S1, .f32⟩
  | 90 => ⟨S_, .f32⟩
  | 91 => ⟨S32x32, .i32⟩
  | 92 => ⟨S32x32, .i32⟩
  | 93 => ⟨S_, .i32⟩
  | 94 => ⟨S32x32, .i32⟩
  | 95 => ⟨S32x32, .i32⟩
  | 96 => ⟨S32x32, .i1⟩
  | 97 => ⟨S32x32, .f32⟩
  | 98 => ⟨S32x32, .f32⟩
  | 99 => ⟨S32x32, .f32⟩
  | 100 => ⟨S32x32, .f32⟩
  | 101 => ⟨S1, .f32⟩
  | 102 => ⟨S_, .f32⟩
  | 103 => ⟨S32x32, .i32⟩
  | 104 => ⟨S32x32, .i32⟩
  | 105 => ⟨S_, .i32⟩
  | 106 => ⟨S32x32, .i32⟩
  | 107 => ⟨S32x32, .i32⟩
  | 108 => ⟨S32x32, .i1⟩
  | 109 => ⟨S32x32, .f32⟩
  | 110 => ⟨S32x32, .f32⟩
  | 111 => ⟨S32x32, .f32⟩
  | 112 => ⟨S32x32, .f32⟩
  | 113 => ⟨S1, .f32⟩
  | 114 => ⟨S_, .f32⟩
  | 115 => ⟨S32x32, .i32⟩
  | 116 => ⟨S32x32, .i32⟩
  | 117 => ⟨S_, .i32⟩
  | 118 => ⟨S32x32, .i32⟩
  | 119 => ⟨S32x32, .i32⟩
  | 120 => ⟨S32x32, .i1⟩
  | 121 => ⟨S32x32, .f32⟩
  | 122 => ⟨S32x32, .f32⟩
  | 123 => ⟨S32x32, .f32⟩
  | 124 => ⟨S32x32, .f32⟩
  | 125 => ⟨S1, .f32⟩
  | 126 => ⟨S_, .f32⟩
  | 127 => ⟨S32x32, .i32⟩
  | _ => ⟨S2x3x512x512, .f32⟩

abbrev hbmTy0_2 (i : Nat) : BufTy := match i % 128 with
  | 0 => ⟨S32x32, .i32⟩
  | 1 => ⟨S_, .i32⟩
  | 2 => ⟨S32x32, .i32⟩
  | 3 => ⟨S32x32, .i32⟩
  | 4 => ⟨S32x32, .i1⟩
  | 5 => ⟨S32x32, .f32⟩
  | 6 => ⟨S32x32, .f32⟩
  | 7 => ⟨S32x32, .f32⟩
  | 8 => ⟨S32x32, .f32⟩
  | 9 => ⟨S1, .f32⟩
  | 10 => ⟨S_, .f32⟩
  | 11 => ⟨S32x32, .i32⟩
  | 12 => ⟨S32x32, .i32⟩
  | 13 => ⟨S_, .i32⟩
  | 14 => ⟨S32x32, .i32⟩
  | 15 => ⟨S32x32, .i32⟩
  | 16 => ⟨S32x32, .i1⟩
  | 17 => ⟨S32x32, .f32⟩
  | 18 => ⟨S32x32, .f32⟩
  | 19 => ⟨S32x32, .f32⟩
  | 20 => ⟨S32x32, .f32⟩
  | 21 => ⟨S1, .f32⟩
  | 22 => ⟨S_, .f32⟩
  | 23 => ⟨S32x32, .i32⟩
  | 24 => ⟨S32x32, .i32⟩
  | 25 => ⟨S_, .i32⟩
  | 26 => ⟨S32x32, .i32⟩
  | 27 => ⟨S32x32, .i32⟩
  | 28 => ⟨S32x32, .i1⟩
  | 29 => ⟨S32x32, .f32⟩
  | 30 => ⟨S32x32, .f32⟩
  | 31 => ⟨S32x32, .f32⟩
  | 32 => ⟨S32x32, .f32⟩
  | 33 => ⟨S1, .f32⟩
  | 34 => ⟨S_, .f32⟩
  | 35 => ⟨S32x32, .i32⟩
  | 36 => ⟨S32x32, .i32⟩
  | 37 => ⟨S_, .i32⟩
  | 38 => ⟨S32x32, .i32⟩
  | 39 => ⟨S32x32, .i32⟩
  | 40 => ⟨S32x32, .i1⟩
  | 41 => ⟨S32x32, .f32⟩
  | 42 => ⟨S32x32, .f32⟩
  | 43 => ⟨S32x32, .f32⟩
  | 44 => ⟨S32x32, .f32⟩
  | 45 => ⟨S1, .f32⟩
  | 46 => ⟨S_, .f32⟩
  | 47 => ⟨S32x32, .i32⟩
  | 48 => ⟨S32x32, .i32⟩
  | 49 => ⟨S_, .i32⟩
  | 50 => ⟨S32x32, .i32⟩
  | 51 => ⟨S32x32, .i32⟩
  | 52 => ⟨S32x32, .i1⟩
  | 53 => ⟨S32x32, .f32⟩
  | 54 => ⟨S32x32, .f32⟩
  | 55 => ⟨S32x32, .f32⟩
  | 56 => ⟨S32x32, .f32⟩
  | 57 => ⟨S1, .f32⟩
  | 58 => ⟨S_, .f32⟩
  | 59 => ⟨S32x32, .i32⟩
  | 60 => ⟨S32x32, .i32⟩
  | 61 => ⟨S_, .i32⟩
  | 62 => ⟨S32x32, .i32⟩
  | 63 => ⟨S32x32, .i32⟩
  | 64 => ⟨S32x32, .i1⟩
  | 65 => ⟨S32x32, .f32⟩
  | 66 => ⟨S32x32, .f32⟩
  | 67 => ⟨S32x32, .f32⟩
  | 68 => ⟨S32x32, .f32⟩
  | 69 => ⟨S2x512x512, .f32⟩
  | 70 => ⟨S2x512x512, .f32⟩
  | 71 => ⟨S2x512x512, .f32⟩
  | 72 => ⟨S_, .f32⟩
  | 73 => ⟨S128x188, .f32⟩
  | 74 => ⟨S1, .f32⟩
  | 75 => ⟨S_, .f32⟩
  | 76 => ⟨S128x188, .i32⟩
  | 77 => ⟨S128x188, .i32⟩
  | 78 => ⟨S_, .i32⟩
  | 79 => ⟨S128x188, .i32⟩
  | 80 => ⟨S128x188, .i32⟩
  | 81 => ⟨S128x188, .i1⟩
  | 82 => ⟨S128x188, .f32⟩
  | 83 => ⟨S128x188, .f32⟩
  | 84 => ⟨S128x188, .f32⟩
  | 85 => ⟨S128x188, .f32⟩
  | 86 => ⟨S1, .f32⟩
  | 87 => ⟨S_, .f32⟩
  | 88 => ⟨S128x188, .i32⟩
  | 89 => ⟨S128x188, .i32⟩
  | 90 => ⟨S_, .i32⟩
  | 91 => ⟨S128x188, .i32⟩
  | 92 => ⟨S128x188, .i32⟩
  | 93 => ⟨S128x188, .i1⟩
  | 94 => ⟨S128x188, .f32⟩
  | 95 => ⟨S128x188, .f32⟩
  | 96 => ⟨S128x188, .f32⟩
  | 97 => ⟨S128x188, .f32⟩
  | 98 => ⟨S1, .f32⟩
  | 99 => ⟨S_, .f32⟩
  | 100 => ⟨S128x188, .i32⟩
  | 101 => ⟨S128x188, .i32⟩
  | 102 => ⟨S_, .i32⟩
  | 103 => ⟨S128x188, .i32⟩
  | 104 => ⟨S128x188, .i32⟩
  | 105 => ⟨S128x188, .i1⟩
  | 106 => ⟨S128x188, .f32⟩
  | 107 => ⟨S128x188, .f32⟩
  | 108 => ⟨S128x188, .f32⟩
  | 109 => ⟨S128x188, .f32⟩
  | 110 => ⟨S1, .f32⟩
  | 111 => ⟨S_, .f32⟩
  | 112 => ⟨S128x188, .i32⟩
  | 113 => ⟨S128x188, .i32⟩
  | 114 => ⟨S_, .i32⟩
  | 115 => ⟨S128x188, .i32⟩
  | 116 => ⟨S128x188, .i32⟩
  | 117 => ⟨S128x188, .i1⟩
  | 118 => ⟨S128x188, .f32⟩
  | 119 => ⟨S128x188, .f32⟩
  | 120 => ⟨S128x188, .f32⟩
  | 121 => ⟨S128x188, .f32⟩
  | 122 => ⟨S1, .f32⟩
  | 123 => ⟨S_, .f32⟩
  | 124 => ⟨S128x188, .i32⟩
  | 125 => ⟨S128x188, .i32⟩
  | 126 => ⟨S_, .i32⟩
  | 127 => ⟨S128x188, .i32⟩
  | _ => ⟨S2x3x512x512, .f32⟩

abbrev hbmTy0_3 (i : Nat) : BufTy := match i % 128 with
  | 0 => ⟨S128x188, .i32⟩
  | 1 => ⟨S128x188, .i1⟩
  | 2 => ⟨S128x188, .f32⟩
  | 3 => ⟨S128x188, .f32⟩
  | 4 => ⟨S128x188, .f32⟩
  | 5 => ⟨S128x188, .f32⟩
  | 6 => ⟨S1, .f32⟩
  | 7 => ⟨S_, .f32⟩
  | 8 => ⟨S128x188, .i32⟩
  | 9 => ⟨S128x188, .i32⟩
  | 10 => ⟨S_, .i32⟩
  | 11 => ⟨S128x188, .i32⟩
  | 12 => ⟨S128x188, .i32⟩
  | 13 => ⟨S128x188, .i1⟩
  | 14 => ⟨S128x188, .f32⟩
  | 15 => ⟨S128x188, .f32⟩
  | 16 => ⟨S128x188, .f32⟩
  | 17 => ⟨S128x188, .f32⟩
  | 18 => ⟨S1, .f32⟩
  | 19 => ⟨S_, .f32⟩
  | 20 => ⟨S128x188, .i32⟩
  | 21 => ⟨S128x188, .i32⟩
  | 22 => ⟨S_, .i32⟩
  | 23 => ⟨S128x188, .i32⟩
  | 24 => ⟨S128x188, .i32⟩
  | 25 => ⟨S128x188, .i1⟩
  | 26 => ⟨S128x188, .f32⟩
  | 27 => ⟨S128x188, .f32⟩
  | 28 => ⟨S128x188, .f32⟩
  | 29 => ⟨S128x188, .f32⟩
  | 30 => ⟨S1, .f32⟩
  | 31 => ⟨S_, .f32⟩
  | 32 => ⟨S128x188, .i32⟩
  | 33 => ⟨S128x188, .i32⟩
  | 34 => ⟨S_, .i32⟩
  | 35 => ⟨S128x188, .i32⟩
  | 36 => ⟨S128x188, .i32⟩
  | 37 => ⟨S128x188, .i1⟩
  | 38 => ⟨S128x188, .f32⟩
  | 39 => ⟨S128x188, .f32⟩
  | 40 => ⟨S128x188, .f32⟩
  | 41 => ⟨S128x188, .f32⟩
  | 42 => ⟨S1, .f32⟩
  | 43 => ⟨S_, .f32⟩
  | 44 => ⟨S128x188, .i32⟩
  | 45 => ⟨S128x188, .i32⟩
  | 46 => ⟨S_, .i32⟩
  | 47 => ⟨S128x188, .i32⟩
  | 48 => ⟨S128x188, .i32⟩
  | 49 => ⟨S128x188, .i1⟩
  | 50 => ⟨S128x188, .f32⟩
  | 51 => ⟨S128x188, .f32⟩
  | 52 => ⟨S128x188, .f32⟩
  | 53 => ⟨S128x188, .f32⟩
  | 54 => ⟨S1, .f32⟩
  | 55 => ⟨S_, .f32⟩
  | 56 => ⟨S128x188, .i32⟩
  | 57 => ⟨S128x188, .i32⟩
  | 58 => ⟨S_, .i32⟩
  | 59 => ⟨S128x188, .i32⟩
  | 60 => ⟨S128x188, .i32⟩
  | 61 => ⟨S128x188, .i1⟩
  | 62 => ⟨S128x188, .f32⟩
  | 63 => ⟨S128x188, .f32⟩
  | 64 => ⟨S128x188, .f32⟩
  | 65 => ⟨S128x188, .f32⟩
  | 66 => ⟨S1, .f32⟩
  | 67 => ⟨S_, .f32⟩
  | 68 => ⟨S128x188, .i32⟩
  | 69 => ⟨S128x188, .i32⟩
  | 70 => ⟨S_, .i32⟩
  | 71 => ⟨S128x188, .i32⟩
  | 72 => ⟨S128x188, .i32⟩
  | 73 => ⟨S128x188, .i1⟩
  | 74 => ⟨S128x188, .f32⟩
  | 75 => ⟨S128x188, .f32⟩
  | 76 => ⟨S128x188, .f32⟩
  | 77 => ⟨S128x188, .f32⟩
  | 78 => ⟨S1, .f32⟩
  | 79 => ⟨S_, .f32⟩
  | 80 => ⟨S128x188, .i32⟩
  | 81 => ⟨S128x188, .i32⟩
  | 82 => ⟨S_, .i32⟩
  | 83 => ⟨S128x188, .i32⟩
  | 84 => ⟨S128x188, .i32⟩
  | 85 => ⟨S128x188, .i1⟩
  | 86 => ⟨S128x188, .f32⟩
  | 87 => ⟨S128x188, .f32⟩
  | 88 => ⟨S128x188, .f32⟩
  | 89 => ⟨S128x188, .f32⟩
  | 90 => ⟨S1, .f32⟩
  | 91 => ⟨S_, .f32⟩
  | 92 => ⟨S128x188, .i32⟩
  | 93 => ⟨S128x188, .i32⟩
  | 94 => ⟨S_, .i32⟩
  | 95 => ⟨S128x188, .i32⟩
  | 96 => ⟨S128x188, .i32⟩
  | 97 => ⟨S128x188, .i1⟩
  | 98 => ⟨S128x188, .f32⟩
  | 99 => ⟨S128x188, .f32⟩
  | 100 => ⟨S128x188, .f32⟩
  | 101 => ⟨S128x188, .f32⟩
  | 102 => ⟨S1, .f32⟩
  | 103 => ⟨S_, .f32⟩
  | 104 => ⟨S128x188, .i32⟩
  | 105 => ⟨S128x188, .i32⟩
  | 106 => ⟨S_, .i32⟩
  | 107 => ⟨S128x188, .i32⟩
  | 108 => ⟨S128x188, .i32⟩
  | 109 => ⟨S128x188, .i1⟩
  | 110 => ⟨S128x188, .f32⟩
  | 111 => ⟨S128x188, .f32⟩
  | 112 => ⟨S128x188, .f32⟩
  | 113 => ⟨S128x188, .f32⟩
  | 114 => ⟨S1, .f32⟩
  | 115 => ⟨S_, .f32⟩
  | 116 => ⟨S128x188, .i32⟩
  | 117 => ⟨S128x188, .i32⟩
  | 118 => ⟨S_, .i32⟩
  | 119 => ⟨S128x188, .i32⟩
  | 120 => ⟨S128x188, .i32⟩
  | 121 => ⟨S128x188, .i1⟩
  | 122 => ⟨S128x188, .f32⟩
  | 123 => ⟨S128x188, .f32⟩
  | 124 => ⟨S128x188, .f32⟩
  | 125 => ⟨S128x188, .f32⟩
  | 126 => ⟨S1, .f32⟩
  | 127 => ⟨S_, .f32⟩
  | _ => ⟨S2x3x512x512, .f32⟩

abbrev hbmTy0_4 (i : Nat) : BufTy := match i % 128 with
  | 0 => ⟨S128x188, .i32⟩
  | 1 => ⟨S128x188, .i32⟩
  | 2 => ⟨S_, .i32⟩
  | 3 => ⟨S128x188, .i32⟩
  | 4 => ⟨S128x188, .i32⟩
  | 5 => ⟨S128x188, .i1⟩
  | 6 => ⟨S128x188, .f32⟩
  | 7 => ⟨S128x188, .f32⟩
  | 8 => ⟨S128x188, .f32⟩
  | 9 => ⟨S128x188, .f32⟩
  | 10 => ⟨S1, .f32⟩
  | 11 => ⟨S_, .f32⟩
  | 12 => ⟨S128x188, .i32⟩
  | 13 => ⟨S128x188, .i32⟩
  | 14 => ⟨S_, .i32⟩
  | 15 => ⟨S128x188, .i32⟩
  | 16 => ⟨S128x188, .i32⟩
  | 17 => ⟨S128x188, .i1⟩
  | 18 => ⟨S128x188, .f32⟩
  | 19 => ⟨S128x188, .f32⟩
  | 20 => ⟨S128x188, .f32⟩
  | 21 => ⟨S128x188, .f32⟩
  | 22 => ⟨S1, .f32⟩
  | 23 => ⟨S_, .f32⟩
  | 24 => ⟨S128x188, .i32⟩
  | 25 => ⟨S128x188, .i32⟩
  | 26 => ⟨S_, .i32⟩
  | 27 => ⟨S128x188, .i32⟩
  | 28 => ⟨S128x188, .i32⟩
  | 29 => ⟨S128x188, .i1⟩
  | 30 => ⟨S128x188, .f32⟩
  | 31 => ⟨S128x188, .f32⟩
  | 32 => ⟨S128x188, .f32⟩
  | 33 => ⟨S128x188, .f32⟩
  | 34 => ⟨S1, .f32⟩
  | 35 => ⟨S_, .f32⟩
  | 36 => ⟨S128x188, .i32⟩
  | 37 => ⟨S128x188, .i32⟩
  | 38 => ⟨S_, .i32⟩
  | 39 => ⟨S128x188, .i32⟩
  | 40 => ⟨S128x188, .i32⟩
  | 41 => ⟨S128x188, .i1⟩
  | 42 => ⟨S128x188, .f32⟩
  | 43 => ⟨S128x188, .f32⟩
  | 44 => ⟨S128x188, .f32⟩
  | 45 => ⟨S128x188, .f32⟩
  | 46 => ⟨S1, .f32⟩
  | 47 => ⟨S_, .f32⟩
  | 48 => ⟨S128x188, .i32⟩
  | 49 => ⟨S128x188, .i32⟩
  | 50 => ⟨S_, .i32⟩
  | 51 => ⟨S128x188, .i32⟩
  | 52 => ⟨S128x188, .i32⟩
  | 53 => ⟨S128x188, .i1⟩
  | 54 => ⟨S128x188, .f32⟩
  | 55 => ⟨S128x188, .f32⟩
  | 56 => ⟨S128x188, .f32⟩
  | 57 => ⟨S128x188, .f32⟩
  | 58 => ⟨S1, .f32⟩
  | 59 => ⟨S_, .f32⟩
  | 60 => ⟨S128x188, .i32⟩
  | 61 => ⟨S128x188, .i32⟩
  | 62 => ⟨S_, .i32⟩
  | 63 => ⟨S128x188, .i32⟩
  | 64 => ⟨S128x188, .i32⟩
  | 65 => ⟨S128x188, .i1⟩
  | 66 => ⟨S128x188, .f32⟩
  | 67 => ⟨S128x188, .f32⟩
  | 68 => ⟨S128x188, .f32⟩
  | 69 => ⟨S128x188, .f32⟩
  | 70 => ⟨S1, .f32⟩
  | 71 => ⟨S_, .f32⟩
  | 72 => ⟨S128x188, .i32⟩
  | 73 => ⟨S128x188, .i32⟩
  | 74 => ⟨S_, .i32⟩
  | 75 => ⟨S128x188, .i32⟩
  | 76 => ⟨S128x188, .i32⟩
  | 77 => ⟨S128x188, .i1⟩
  | 78 => ⟨S128x188, .f32⟩
  | 79 => ⟨S128x188, .f32⟩
  | 80 => ⟨S128x188, .f32⟩
  | 81 => ⟨S128x188, .f32⟩
  | 82 => ⟨S1, .f32⟩
  | 83 => ⟨S_, .f32⟩
  | 84 => ⟨S128x188, .i32⟩
  | 85 => ⟨S128x188, .i32⟩
  | 86 => ⟨S_, .i32⟩
  | 87 => ⟨S128x188, .i32⟩
  | 88 => ⟨S128x188, .i32⟩
  | 89 => ⟨S128x188, .i1⟩
  | 90 => ⟨S128x188, .f32⟩
  | 91 => ⟨S128x188, .f32⟩
  | 92 => ⟨S128x188, .f32⟩
  | 93 => ⟨S128x188, .f32⟩
  | 94 => ⟨S1, .f32⟩
  | 95 => ⟨S_, .f32⟩
  | 96 => ⟨S128x188, .i32⟩
  | 97 => ⟨S128x188, .i32⟩
  | 98 => ⟨S_, .i32⟩
  | 99 => ⟨S128x188, .i32⟩
  | 100 => ⟨S128x188, .i32⟩
  | 101 => ⟨S128x188, .i1⟩
  | 102 => ⟨S128x188, .f32⟩
  | 103 => ⟨S128x188, .f32⟩
  | 104 => ⟨S128x188, .f32⟩
  | 105 => ⟨S128x188, .f32⟩
  | 106 => ⟨S1, .f32⟩
  | 107 => ⟨S_, .f32⟩
  | 108 => ⟨S128x188, .i32⟩
  | 109 => ⟨S128x188, .i32⟩
  | 110 => ⟨S_, .i32⟩
  | 111 => ⟨S128x188, .i32⟩
  | 112 => ⟨S128x188, .i32⟩
  | 113 => ⟨S128x188, .i1⟩
  | 114 => ⟨S128x188, .f32⟩
  | 115 => ⟨S128x188, .f32⟩
  | 116 => ⟨S128x188, .f32⟩
  | 117 => ⟨S128x188, .f32⟩
  | 118 => ⟨S1, .f32⟩
  | 119 => ⟨S_, .f32⟩
  | 120 => ⟨S128x188, .i32⟩
  | 121 => ⟨S128x188, .i32⟩
  | 122 => ⟨S_, .i32⟩
  | 123 => ⟨S128x188, .i32⟩
  | 124 => ⟨S128x188, .i32⟩
  | 125 => ⟨S128x188, .i1⟩
  | 126 => ⟨S128x188, .f32⟩
  | 127 => ⟨S128x188, .f32⟩
  | _ => ⟨S2x3x512x512, .f32⟩

abbrev hbmTy0_5 (i : Nat) : BufTy := match i % 128 with
  | 0 => ⟨S128x188, .f32⟩
  | 1 => ⟨S128x188, .f32⟩
  | 2 => ⟨S1, .f32⟩
  | 3 => ⟨S_, .f32⟩
  | 4 => ⟨S128x188, .i32⟩
  | 5 => ⟨S128x188, .i32⟩
  | 6 => ⟨S_, .i32⟩
  | 7 => ⟨S128x188, .i32⟩
  | 8 => ⟨S128x188, .i32⟩
  | 9 => ⟨S128x188, .i1⟩
  | 10 => ⟨S128x188, .f32⟩
  | 11 => ⟨S128x188, .f32⟩
  | 12 => ⟨S128x188, .f32⟩
  | 13 => ⟨S128x188, .f32⟩
  | 14 => ⟨S1, .f32⟩
  | 15 => ⟨S_, .f32⟩
  | 16 => ⟨S128x188, .i32⟩
  | 17 => ⟨S128x188, .i32⟩
  | 18 => ⟨S_, .i32⟩
  | 19 => ⟨S128x188, .i32⟩
  | 20 => ⟨S128x188, .i32⟩
  | 21 => ⟨S128x188, .i1⟩
  | 22 => ⟨S128x188, .f32⟩
  | 23 => ⟨S128x188, .f32⟩
  | 24 => ⟨S128x188, .f32⟩
  | 25 => ⟨S128x188, .f32⟩
  | 26 => ⟨S1, .f32⟩
  | 27 => ⟨S_, .f32⟩
  | 28 => ⟨S128x188, .i32⟩
  | 29 => ⟨S128x188, .i32⟩
  | 30 => ⟨S_, .i32⟩
  | 31 => ⟨S128x188, .i32⟩
  | 32 => ⟨S128x188, .i32⟩
  | 33 => ⟨S128x188, .i1⟩
  | 34 => ⟨S128x188, .f32⟩
  | 35 => ⟨S128x188, .f32⟩
  | 36 => ⟨S128x188, .f32⟩
  | 37 => ⟨S128x188, .f32⟩
  | 38 => ⟨S1, .f32⟩
  | 39 => ⟨S_, .f32⟩
  | 40 => ⟨S128x188, .i32⟩
  | 41 => ⟨S128x188, .i32⟩
  | 42 => ⟨S_, .i32⟩
  | 43 => ⟨S128x188, .i32⟩
  | 44 => ⟨S128x188, .i32⟩
  | 45 => ⟨S128x188, .i1⟩
  | 46 => ⟨S128x188, .f32⟩
  | 47 => ⟨S128x188, .f32⟩
  | 48 => ⟨S128x188, .f32⟩
  | 49 => ⟨S128x188, .f32⟩
  | 50 => ⟨S1, .f32⟩
  | 51 => ⟨S_, .f32⟩
  | 52 => ⟨S128x188, .i32⟩
  | 53 => ⟨S128x188, .i32⟩
  | 54 => ⟨S_, .i32⟩
  | 55 => ⟨S128x188, .i32⟩
  | 56 => ⟨S128x188, .i32⟩
  | 57 => ⟨S128x188, .i1⟩
  | 58 => ⟨S128x188, .f32⟩
  | 59 => ⟨S128x188, .f32⟩
  | 60 => ⟨S128x188, .f32⟩
  | 61 => ⟨S128x188, .f32⟩
  | 62 => ⟨S1, .f32⟩
  | 63 => ⟨S_, .f32⟩
  | 64 => ⟨S128x188, .i32⟩
  | 65 => ⟨S128x188, .i32⟩
  | 66 => ⟨S_, .i32⟩
  | 67 => ⟨S128x188, .i32⟩
  | 68 => ⟨S128x188, .i32⟩
  | 69 => ⟨S128x188, .i1⟩
  | 70 => ⟨S128x188, .f32⟩
  | 71 => ⟨S128x188, .f32⟩
  | 72 => ⟨S128x188, .f32⟩
  | 73 => ⟨S128x188, .f32⟩
  | 74 => ⟨S1, .f32⟩
  | 75 => ⟨S_, .f32⟩
  | 76 => ⟨S128x188, .i32⟩
  | 77 => ⟨S128x188, .i32⟩
  | 78 => ⟨S_, .i32⟩
  | 79 => ⟨S128x188, .i32⟩
  | 80 => ⟨S128x188, .i32⟩
  | 81 => ⟨S128x188, .i1⟩
  | 82 => ⟨S128x188, .f32⟩
  | 83 => ⟨S128x188, .f32⟩
  | 84 => ⟨S128x188, .f32⟩
  | 85 => ⟨S128x188, .f32⟩
  | 86 => ⟨S1, .f32⟩
  | 87 => ⟨S_, .f32⟩
  | 88 => ⟨S128x188, .i32⟩
  | 89 => ⟨S128x188, .i32⟩
  | 90 => ⟨S_, .i32⟩
  | 91 => ⟨S128x188, .i32⟩
  | 92 => ⟨S128x188, .i32⟩
  | 93 => ⟨S128x188, .i1⟩
  | 94 => ⟨S128x188, .f32⟩
  | 95 => ⟨S128x188, .f32⟩
  | 96 => ⟨S128x188, .f32⟩
  | 97 => ⟨S128x188, .f32⟩
  | 98 => ⟨S1, .f32⟩
  | 99 => ⟨S_, .f32⟩
  | 100 => ⟨S128x188, .i32⟩
  | 101 => ⟨S128x188, .i32⟩
  | 102 => ⟨S_, .i32⟩
  | 103 => ⟨S128x188, .i32⟩
  | 104 => ⟨S128x188, .i32⟩
  | 105 => ⟨S128x188, .i1⟩
  | 106 => ⟨S128x188, .f32⟩
  | 107 => ⟨S128x188, .f32⟩
  | 108 => ⟨S128x188, .f32⟩
  | 109 => ⟨S128x188, .f32⟩
  | 110 => ⟨S1, .f32⟩
  | 111 => ⟨S_, .f32⟩
  | 112 => ⟨S128x188, .i32⟩
  | 113 => ⟨S128x188, .i32⟩
  | 114 => ⟨S_, .i32⟩
  | 115 => ⟨S128x188, .i32⟩
  | 116 => ⟨S128x188, .i32⟩
  | 117 => ⟨S128x188, .i1⟩
  | 118 => ⟨S128x188, .f32⟩
  | 119 => ⟨S128x188, .f32⟩
  | 120 => ⟨S128x188, .f32⟩
  | 121 => ⟨S128x188, .f32⟩
  | 122 => ⟨S1, .f32⟩
  | 123 => ⟨S_, .f32⟩
  | 124 => ⟨S128x188, .i32⟩
  | 125 => ⟨S128x188, .i32⟩
  | 126 => ⟨S_, .i32⟩
  | 127 => ⟨S128x188, .i32⟩
  | _ => ⟨S2x3x512x512, .f32⟩

abbrev hbmTy0_6 (i : Nat) : BufTy := match i % 128 with
  | 0 => ⟨S128x188, .i32⟩
  | 1 => ⟨S128x188, .i1⟩
  | 2 => ⟨S128x188, .f32⟩
  | 3 => ⟨S128x188, .f32⟩
  | 4 => ⟨S128x188, .f32⟩
  | 5 => ⟨S128x188, .f32⟩
  | 6 => ⟨S1, .f32⟩
  | 7 => ⟨S_, .f32⟩
  | 8 => ⟨S128x188, .i32⟩
  | 9 => ⟨S128x188, .i32⟩
  | 10 => ⟨S_, .i32⟩
  | 11 => ⟨S128x188, .i32⟩
  | 12 => ⟨S128x188, .i32⟩
  | 13 => ⟨S128x188, .i1⟩
  | 14 => ⟨S128x188, .f32⟩
  | 15 => ⟨S128x188, .f32⟩
  | 16 => ⟨S128x188, .f32⟩
  | 17 => ⟨S128x188, .f32⟩
  | 18 => ⟨S1, .f32⟩
  | 19 => ⟨S_, .f32⟩
  | 20 => ⟨S128x188, .i32⟩
  | 21 => ⟨S128x188, .i32⟩
  | 22 => ⟨S_, .i32⟩
  | 23 => ⟨S128x188, .i32⟩
  | 24 => ⟨S128x188, .i32⟩
  | 25 => ⟨S128x188, .i1⟩
  | 26 => ⟨S128x188, .f32⟩
  | 27 => ⟨S128x188, .f32⟩
  | 28 => ⟨S128x188, .f32⟩
  | 29 => ⟨S128x188, .f32⟩
  | 30 => ⟨S1, .f32⟩
  | 31 => ⟨S_, .f32⟩
  | 32 => ⟨S128x188, .i32⟩
  | 33 => ⟨S128x188, .i32⟩
  | 34 => ⟨S_, .i32⟩
  | 35 => ⟨S128x188, .i32⟩
  | 36 => ⟨S128x188, .i32⟩
  | 37 => ⟨S128x188, .i1⟩
  | 38 => ⟨S128x188, .f32⟩
  | 39 => ⟨S128x188, .f32⟩
  | 40 => ⟨S128x188, .f32⟩
  | 41 => ⟨S128x188, .f32⟩
  | 42 => ⟨S1, .f32⟩
  | 43 => ⟨S_, .f32⟩
  | 44 => ⟨S128x188, .i32⟩
  | 45 => ⟨S128x188, .i32⟩
  | 46 => ⟨S_, .i32⟩
  | 47 => ⟨S128x188, .i32⟩
  | 48 => ⟨S128x188, .i32⟩
  | 49 => ⟨S128x188, .i1⟩
  | 50 => ⟨S128x188, .f32⟩
  | 51 => ⟨S128x188, .f32⟩
  | 52 => ⟨S128x188, .f32⟩
  | 53 => ⟨S128x188, .f32⟩
  | 54 => ⟨S1, .f32⟩
  | 55 => ⟨S_, .f32⟩
  | 56 => ⟨S128x188, .i32⟩
  | 57 => ⟨S128x188, .i32⟩
  | 58 => ⟨S_, .i32⟩
  | 59 => ⟨S128x188, .i32⟩
  | 60 => ⟨S128x188, .i32⟩
  | 61 => ⟨S128x188, .i1⟩
  | 62 => ⟨S128x188, .f32⟩
  | 63 => ⟨S128x188, .f32⟩
  | 64 => ⟨S128x188, .f32⟩
  | 65 => ⟨S128x188, .f32⟩
  | 66 => ⟨S1, .f32⟩
  | 67 => ⟨S_, .f32⟩
  | 68 => ⟨S128x188, .i32⟩
  | 69 => ⟨S128x188, .i32⟩
  | 70 => ⟨S_, .i32⟩
  | 71 => ⟨S128x188, .i32⟩
  | 72 => ⟨S128x188, .i32⟩
  | 73 => ⟨S128x188, .i1⟩
  | 74 => ⟨S128x188, .f32⟩
  | 75 => ⟨S128x188, .f32⟩
  | 76 => ⟨S128x188, .f32⟩
  | 77 => ⟨S128x188, .f32⟩
  | 78 => ⟨S1, .f32⟩
  | 79 => ⟨S_, .f32⟩
  | 80 => ⟨S128x188, .i32⟩
  | 81 => ⟨S128x188, .i32⟩
  | 82 => ⟨S_, .i32⟩
  | 83 => ⟨S128x188, .i32⟩
  | 84 => ⟨S128x188, .i32⟩
  | 85 => ⟨S128x188, .i1⟩
  | 86 => ⟨S128x188, .f32⟩
  | 87 => ⟨S128x188, .f32⟩
  | 88 => ⟨S128x188, .f32⟩
  | 89 => ⟨S128x188, .f32⟩
  | 90 => ⟨S1, .f32⟩
  | 91 => ⟨S_, .f32⟩
  | 92 => ⟨S128x188, .i32⟩
  | 93 => ⟨S128x188, .i32⟩
  | 94 => ⟨S_, .i32⟩
  | 95 => ⟨S128x188, .i32⟩
  | 96 => ⟨S128x188, .i32⟩
  | 97 => ⟨S128x188, .i1⟩
  | 98 => ⟨S128x188, .f32⟩
  | 99 => ⟨S128x188, .f32⟩
  | 100 => ⟨S128x188, .f32⟩
  | 101 => ⟨S128x188, .f32⟩
  | 102 => ⟨S1, .f32⟩
  | 103 => ⟨S_, .f32⟩
  | 104 => ⟨S128x188, .i32⟩
  | 105 => ⟨S128x188, .i32⟩
  | 106 => ⟨S_, .i32⟩
  | 107 => ⟨S128x188, .i32⟩
  | 108 => ⟨S128x188, .i32⟩
  | 109 => ⟨S128x188, .i1⟩
  | 110 => ⟨S128x188, .f32⟩
  | 111 => ⟨S128x188, .f32⟩
  | 112 => ⟨S128x188, .f32⟩
  | 113 => ⟨S128x188, .f32⟩
  | 114 => ⟨S1, .f32⟩
  | 115 => ⟨S_, .f32⟩
  | 116 => ⟨S128x188, .i32⟩
  | 117 => ⟨S128x188, .i32⟩
  | 118 => ⟨S_, .i32⟩
  | 119 => ⟨S128x188, .i32⟩
  | 120 => ⟨S128x188, .i32⟩
  | 121 => ⟨S128x188, .i1⟩
  | 122 => ⟨S128x188, .f32⟩
  | 123 => ⟨S128x188, .f32⟩
  | 124 => ⟨S128x188, .f32⟩
  | 125 => ⟨S128x188, .f32⟩
  | 126 => ⟨S1, .f32⟩
  | 127 => ⟨S_, .f32⟩
  | _ => ⟨S2x3x512x512, .f32⟩

abbrev hbmTy0_7 (i : Nat) : BufTy := match i % 128 with
  | 0 => ⟨S128x188, .i32⟩
  | 1 => ⟨S128x188, .i32⟩
  | 2 => ⟨S_, .i32⟩
  | 3 => ⟨S128x188, .i32⟩
  | 4 => ⟨S128x188, .i32⟩
  | 5 => ⟨S128x188, .i1⟩
  | 6 => ⟨S128x188, .f32⟩
  | 7 => ⟨S128x188, .f32⟩
  | 8 => ⟨S128x188, .f32⟩
  | 9 => ⟨S128x188, .f32⟩
  | 10 => ⟨S1, .f32⟩
  | 11 => ⟨S_, .f32⟩
  | 12 => ⟨S128x188, .i32⟩
  | 13 => ⟨S128x188, .i32⟩
  | 14 => ⟨S_, .i32⟩
  | 15 => ⟨S128x188, .i32⟩
  | 16 => ⟨S128x188, .i32⟩
  | 17 => ⟨S128x188, .i1⟩
  | 18 => ⟨S128x188, .f32⟩
  | 19 => ⟨S128x188, .f32⟩
  | 20 => ⟨S128x188, .f32⟩
  | 21 => ⟨S128x188, .f32⟩
  | 22 => ⟨S1, .f32⟩
  | 23 => ⟨S_, .f32⟩
  | 24 => ⟨S128x188, .i32⟩
  | 25 => ⟨S128x188, .i32⟩
  | 26 => ⟨S_, .i32⟩
  | 27 => ⟨S128x188, .i32⟩
  | 28 => ⟨S128x188, .i32⟩
  | 29 => ⟨S128x188, .i1⟩
  | 30 => ⟨S128x188, .f32⟩
  | 31 => ⟨S128x188, .f32⟩
  | 32 => ⟨S128x188, .f32⟩
  | 33 => ⟨S128x188, .f32⟩
  | 34 => ⟨S1, .f32⟩
  | 35 => ⟨S_, .f32⟩
  | 36 => ⟨S128x188, .i32⟩
  | 37 => ⟨S128x188, .i32⟩
  | 38 => ⟨S_, .i32⟩
  | 39 => ⟨S128x188, .i32⟩
  | 40 => ⟨S128x188, .i32⟩
  | 41 => ⟨S128x188, .i1⟩
  | 42 => ⟨S128x188, .f32⟩
  | 43 => ⟨S128x188, .f32⟩
  | 44 => ⟨S128x188, .f32⟩
  | 45 => ⟨S128x188, .f32⟩
  | 46 => ⟨S1, .f32⟩
  | 47 => ⟨S_, .f32⟩
  | 48 => ⟨S128x188, .i32⟩
  | 49 => ⟨S128x188, .i32⟩
  | 50 => ⟨S_, .i32⟩
  | 51 => ⟨S128x188, .i32⟩
  | 52 => ⟨S128x188, .i32⟩
  | 53 => ⟨S128x188, .i1⟩
  | 54 => ⟨S128x188, .f32⟩
  | 55 => ⟨S128x188, .f32⟩
  | 56 => ⟨S128x188, .f32⟩
  | 57 => ⟨S128x188, .f32⟩
  | 58 => ⟨S1, .f32⟩
  | 59 => ⟨S_, .f32⟩
  | 60 => ⟨S128x188, .i32⟩
  | 61 => ⟨S128x188, .i32⟩
  | 62 => ⟨S_, .i32⟩
  | 63 => ⟨S128x188, .i32⟩
  | 64 => ⟨S128x188, .i32⟩
  | 65 => ⟨S128x188, .i1⟩
  | 66 => ⟨S128x188, .f32⟩
  | 67 => ⟨S128x188, .f32⟩
  | 68 => ⟨S128x188, .f32⟩
  | 69 => ⟨S128x188, .f32⟩
  | 70 => ⟨S1, .f32⟩
  | 71 => ⟨S_, .f32⟩
  | 72 => ⟨S128x188, .i32⟩
  | 73 => ⟨S128x188, .i32⟩
  | 74 => ⟨S_, .i32⟩
  | 75 => ⟨S128x188, .i32⟩
  | 76 => ⟨S128x188, .i32⟩
  | 77 => ⟨S128x188, .i1⟩
  | 78 => ⟨S128x188, .f32⟩
  | 79 => ⟨S128x188, .f32⟩
  | 80 => ⟨S128x188, .f32⟩
  | 81 => ⟨S128x188, .f32⟩
  | 82 => ⟨S1, .f32⟩
  | 83 => ⟨S_, .f32⟩
  | 84 => ⟨S128x188, .i32⟩
  | 85 => ⟨S128x188, .i32⟩
  | 86 => ⟨S_, .i32⟩
  | 87 => ⟨S128x188, .i32⟩
  | 88 => ⟨S128x188, .i32⟩
  | 89 => ⟨S128x188, .i1⟩
  | 90 => ⟨S128x188, .f32⟩
  | 91 => ⟨S128x188, .f32⟩
  | 92 => ⟨S128x188, .f32⟩
  | 93 => ⟨S128x188, .f32⟩
  | 94 => ⟨S1, .f32⟩
  | 95 => ⟨S_, .f32⟩
  | 96 => ⟨S128x188, .i32⟩
  | 97 => ⟨S128x188, .i32⟩
  | 98 => ⟨S_, .i32⟩
  | 99 => ⟨S128x188, .i32⟩
  | 100 => ⟨S128x188, .i32⟩
  | 101 => ⟨S128x188, .i1⟩
  | 102 => ⟨S128x188, .f32⟩
  | 103 => ⟨S128x188, .f32⟩
  | 104 => ⟨S128x188, .f32⟩
  | 105 => ⟨S128x188, .f32⟩
  | 106 => ⟨S1, .f32⟩
  | 107 => ⟨S_, .f32⟩
  | 108 => ⟨S128x188, .i32⟩
  | 109 => ⟨S128x188, .i32⟩
  | 110 => ⟨S_, .i32⟩
  | 111 => ⟨S128x188, .i32⟩
  | 112 => ⟨S128x188, .i32⟩
  | 113 => ⟨S128x188, .i1⟩
  | 114 => ⟨S128x188, .f32⟩
  | 115 => ⟨S128x188, .f32⟩
  | 116 => ⟨S128x188, .f32⟩
  | 117 => ⟨S128x188, .f32⟩
  | 118 => ⟨S1, .f32⟩
  | 119 => ⟨S_, .f32⟩
  | 120 => ⟨S128x188, .i32⟩
  | 121 => ⟨S128x188, .i32⟩
  | 122 => ⟨S_, .i32⟩
  | 123 => ⟨S128x188, .i32⟩
  | 124 => ⟨S128x188, .i32⟩
  | 125 => ⟨S128x188, .i1⟩
  | 126 => ⟨S128x188, .f32⟩
  | 127 => ⟨S128x188, .f32⟩
  | _ => ⟨S2x3x512x512, .f32⟩

abbrev hbmTy0_8 (i : Nat) : BufTy := match i % 128 with
  | 0 => ⟨S128x188, .f32⟩
  | 1 => ⟨S128x188, .f32⟩
  | 2 => ⟨S1, .f32⟩
  | 3 => ⟨S_, .f32⟩
  | 4 => ⟨S128x188, .i32⟩
  | 5 => ⟨S128x188, .i32⟩
  | 6 => ⟨S_, .i32⟩
  | 7 => ⟨S128x188, .i32⟩
  | 8 => ⟨S128x188, .i32⟩
  | 9 => ⟨S128x188, .i1⟩
  | 10 => ⟨S128x188, .f32⟩
  | 11 => ⟨S128x188, .f32⟩
  | 12 => ⟨S128x188, .f32⟩
  | 13 => ⟨S128x188, .f32⟩
  | 14 => ⟨S1, .f32⟩
  | 15 => ⟨S_, .f32⟩
  | 16 => ⟨S128x188, .i32⟩
  | 17 => ⟨S128x188, .i32⟩
  | 18 => ⟨S_, .i32⟩
  | 19 => ⟨S128x188, .i32⟩
  | 20 => ⟨S128x188, .i32⟩
  | 21 => ⟨S128x188, .i1⟩
  | 22 => ⟨S128x188, .f32⟩
  | 23 => ⟨S128x188, .f32⟩
  | 24 => ⟨S128x188, .f32⟩
  | 25 => ⟨S128x188, .f32⟩
  | 26 => ⟨S1, .f32⟩
  | 27 => ⟨S_, .f32⟩
  | 28 => ⟨S128x188, .i32⟩
  | 29 => ⟨S128x188, .i32⟩
  | 30 => ⟨S_, .i32⟩
  | 31 => ⟨S128x188, .i32⟩
  | 32 => ⟨S128x188, .i32⟩
  | 33 => ⟨S128x188, .i1⟩
  | 34 => ⟨S128x188, .f32⟩
  | 35 => ⟨S128x188, .f32⟩
  | 36 => ⟨S128x188, .f32⟩
  | 37 => ⟨S128x188, .f32⟩
  | 38 => ⟨S188x128, .f32⟩
  | 39 => ⟨S_, .i32⟩
  | 40 => ⟨S_, .f32⟩
  | 41 => ⟨S2x576x640, .f32⟩
  | 42 => ⟨S_, .i32⟩
  | 43 => ⟨S_, .f32⟩
  | 44 => ⟨S2x576x640, .f32⟩
  | 45 => ⟨S_, .i32⟩
  | 46 => ⟨S_, .f32⟩
  | 47 => ⟨S2x576x640, .f32⟩
  | 48 => ⟨S_, .f32⟩
  | 49 => ⟨S32x32, .f32⟩
  | 50 => ⟨S1, .f32⟩
  | 51 => ⟨S_, .f32⟩
  | 52 => ⟨S32x32, .i32⟩
  | 53 => ⟨S32x32, .i32⟩
  | 54 => ⟨S_, .i32⟩
  | 55 => ⟨S32x32, .i32⟩
  | 56 => ⟨S32x32, .i32⟩
  | 57 => ⟨S32x32, .i1⟩
  | 58 => ⟨S32x32, .f32⟩
  | 59 => ⟨S32x32, .f32⟩
  | 60 => ⟨S32x32, .f32⟩
  | 61 => ⟨S32x32, .f32⟩
  | 62 => ⟨S1, .f32⟩
  | 63 => ⟨S_, .f32⟩
  | 64 => ⟨S32x32, .i32⟩
  | 65 => ⟨S32x32, .i32⟩
  | 66 => ⟨S_, .i32⟩
  | 67 => ⟨S32x32, .i32⟩
  | 68 => ⟨S32x32, .i32⟩
  | 69 => ⟨S32x32, .i1⟩
  | 70 => ⟨S32x32, .f32⟩
  | 71 => ⟨S32x32, .f32⟩
  | 72 => ⟨S32x32, .f32⟩
  | 73 => ⟨S32x32, .f32⟩
  | 74 => ⟨S1, .f32⟩
  | 75 => ⟨S_, .f32⟩
  | 76 => ⟨S32x32, .i32⟩
  | 77 => ⟨S32x32, .i32⟩
  | 78 => ⟨S_, .i32⟩
  | 79 => ⟨S32x32, .i32⟩
  | 80 => ⟨S32x32, .i32⟩
  | 81 => ⟨S32x32, .i1⟩
  | 82 => ⟨S32x32, .f32⟩
  | 83 => ⟨S32x32, .f32⟩
  | 84 => ⟨S32x32, .f32⟩
  | 85 => ⟨S32x32, .f32⟩
  | 86 => ⟨S1, .f32⟩
  | 87 => ⟨S_, .f32⟩
  | 88 => ⟨S32x32, .i32⟩
  | 89 => ⟨S32x32, .i32⟩
  | 90 => ⟨S_, .i32⟩
  | 91 => ⟨S32x32, .i32⟩
  | 92 => ⟨S32x32, .i32⟩
  | 93 => ⟨S32x32, .i1⟩
  | 94 => ⟨S32x32, .f32⟩
  | 95 => ⟨S32x32, .f32⟩
  | 96 => ⟨S32x32, .f32⟩
  | 97 => ⟨S32x32, .f32⟩
  | 98 => ⟨S1, .f32⟩
  | 99 => ⟨S_, .f32⟩
  | 100 => ⟨S32x32, .i32⟩
  | 101 => ⟨S32x32, .i32⟩
  | 102 => ⟨S_, .i32⟩
  | 103 => ⟨S32x32, .i32⟩
  | 104 => ⟨S32x32, .i32⟩
  | 105 => ⟨S32x32, .i1⟩
  | 106 => ⟨S32x32, .f32⟩
  | 107 => ⟨S32x32, .f32⟩
  | 108 => ⟨S32x32, .f32⟩
  | 109 => ⟨S32x32, .f32⟩
  | 110 => ⟨S1, .f32⟩
  | 111 => ⟨S_, .f32⟩
  | 112 => ⟨S32x32, .i32⟩
  | 113 => ⟨S32x32, .i32⟩
  | 114 => ⟨S_, .i32⟩
  | 115 => ⟨S32x32, .i32⟩
  | 116 => ⟨S32x32, .i32⟩
  | 117 => ⟨S32x32, .i1⟩
  | 118 => ⟨S32x32, .f32⟩
  | 119 => ⟨S32x32, .f32⟩
  | 120 => ⟨S32x32, .f32⟩
  | 121 => ⟨S32x32, .f32⟩
  | 122 => ⟨S1, .f32⟩
  | 123 => ⟨S_, .f32⟩
  | 124 => ⟨S32x32, .i32⟩
  | 125 => ⟨S32x32, .i32⟩
  | 126 => ⟨S_, .i32⟩
  | 127 => ⟨S32x32, .i32⟩
  | _ => ⟨S2x3x512x512, .f32⟩

abbrev hbmTy0_9 (i : Nat) : BufTy := match i % 128 with
  | 0 => ⟨S32x32, .i32⟩
  | 1 => ⟨S32x32, .i1⟩
  | 2 => ⟨S32x32, .f32⟩
  | 3 => ⟨S32x32, .f32⟩
  | 4 => ⟨S32x32, .f32⟩
  | 5 => ⟨S32x32, .f32⟩
  | 6 => ⟨S1, .f32⟩
  | 7 => ⟨S_, .f32⟩
  | 8 => ⟨S32x32, .i32⟩
  | 9 => ⟨S32x32, .i32⟩
  | 10 => ⟨S_, .i32⟩
  | 11 => ⟨S32x32, .i32⟩
  | 12 => ⟨S32x32, .i32⟩
  | 13 => ⟨S32x32, .i1⟩
  | 14 => ⟨S32x32, .f32⟩
  | 15 => ⟨S32x32, .f32⟩
  | 16 => ⟨S32x32, .f32⟩
  | 17 => ⟨S32x32, .f32⟩
  | 18 => ⟨S1, .f32⟩
  | 19 => ⟨S_, .f32⟩
  | 20 => ⟨S32x32, .i32⟩
  | 21 => ⟨S32x32, .i32⟩
  | 22 => ⟨S_, .i32⟩
  | 23 => ⟨S32x32, .i32⟩
  | 24 => ⟨S32x32, .i32⟩
  | 25 => ⟨S32x32, .i1⟩
  | 26 => ⟨S32x32, .f32⟩
  | 27 => ⟨S32x32, .f32⟩
  | 28 => ⟨S32x32, .f32⟩
  | 29 => ⟨S32x32, .f32⟩
  | 30 => ⟨S1, .f32⟩
  | 31 => ⟨S_, .f32⟩
  | 32 => ⟨S32x32, .i32⟩
  | 33 => ⟨S32x32, .i32⟩
  | 34 => ⟨S_, .i32⟩
  | 35 => ⟨S32x32, .i32⟩
  | 36 => ⟨S32x32, .i32⟩
  | 37 => ⟨S32x32, .i1⟩
  | 38 => ⟨S32x32, .f32⟩
  | 39 => ⟨S32x32, .f32⟩
  | 40 => ⟨S32x32, .f32⟩
  | 41 => ⟨S32x32, .f32⟩
  | 42 => ⟨S1, .f32⟩
  | 43 => ⟨S_, .f32⟩
  | 44 => ⟨S32x32, .i32⟩
  | 45 => ⟨S32x32, .i32⟩
  | 46 => ⟨S_, .i32⟩
  | 47 => ⟨S32x32, .i32⟩
  | 48 => ⟨S32x32, .i32⟩
  | 49 => ⟨S32x32, .i1⟩
  | 50 => ⟨S32x32, .f32⟩
  | 51 => ⟨S32x32, .f32⟩
  | 52 => ⟨S32x32, .f32⟩
  | 53 => ⟨S32x32, .f32⟩
  | 54 => ⟨S1, .f32⟩
  | 55 => ⟨S_, .f32⟩
  | 56 => ⟨S32x32, .i32⟩
  | 57 => ⟨S32x32, .i32⟩
  | 58 => ⟨S_, .i32⟩
  | 59 => ⟨S32x32, .i32⟩
  | 60 => ⟨S32x32, .i32⟩
  | 61 => ⟨S32x32, .i1⟩
  | 62 => ⟨S32x32, .f32⟩
  | 63 => ⟨S32x32, .f32⟩
  | 64 => ⟨S32x32, .f32⟩
  | 65 => ⟨S32x32, .f32⟩
  | 66 => ⟨S1, .f32⟩
  | 67 => ⟨S_, .f32⟩
  | 68 => ⟨S32x32, .i32⟩
  | 69 => ⟨S32x32, .i32⟩
  | 70 => ⟨S_, .i32⟩
  | 71 => ⟨S32x32, .i32⟩
  | 72 => ⟨S32x32, .i32⟩
  | 73 => ⟨S32x32, .i1⟩
  | 74 => ⟨S32x32, .f32⟩
  | 75 => ⟨S32x32, .f32⟩
  | 76 => ⟨S32x32, .f32⟩
  | 77 => ⟨S32x32, .f32⟩
  | 78 => ⟨S2x3x512x512, .f32⟩
  | _ => ⟨S2x3x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S2x3x512x512, .f32⟩

abbrev bufTy : (tb : Table) → Fin (tcTables nBuf tb) → BufTy
  | .hbm, ⟨i, _⟩ => hbmTy i
  | .local _ .vmem, ⟨0, _⟩ => ⟨S1x3x144x256, .f32⟩
  | .local _ .vmem, ⟨1, _⟩ => ⟨S1x3x144x256, .f32⟩
  | .local _ .vmem, ⟨2, _⟩ => ⟨S128x140, .f32⟩
  | .local _ .vmem, ⟨3, _⟩ => ⟨S140x128, .f32⟩
  | .local _ .vmem, ⟨4, _⟩ => ⟨S32x32, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x192x256, .f32⟩
  | .local _ .vmem, ⟨12, _⟩ => ⟨S1x192x256, .f32⟩
  | .local _ .vmem, ⟨13, _⟩ => ⟨S1x192x256, .f32⟩
  | .local _ .vmem, ⟨14, _⟩ => ⟨S1x192x256, .f32⟩
  | .local _ .vmem, ⟨15, _⟩ => ⟨S1x192x256, .f32⟩
  | .local _ .vmem, ⟨16, _⟩ => ⟨S1x192x256, .f32⟩
  | .local _ .vmem, ⟨17, _⟩ => ⟨S128x188, .f32⟩
  | .local _ .vmem, ⟨18, _⟩ => ⟨S188x128, .f32⟩
  | .local _ .vmem, ⟨19, _⟩ => ⟨S32x32, .f32⟩
  | .local _ .vmem, ⟨20, _⟩ => ⟨S1x3x128x128, .f32⟩
  | .local _ .vmem, ⟨21, _⟩ => ⟨S1x3x128x128, .f32⟩
  | _, _ => ⟨S2x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_2 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_3 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_c_4 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_c_5 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_c_6 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_c_7 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_c_8 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_c_9 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_c_10 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_c_11 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_c_12 : Ref sig .tc := ⟨.hbm, 164, rfl⟩
abbrev main_call0_v0 : Ref sig .tc := ⟨.hbm, 165, rfl⟩
abbrev main_v145 : Ref sig .tc := ⟨.hbm, 166, rfl⟩
abbrev main_cst_13 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_c_14 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_c_15 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_c_16 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_c_17 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_c_18 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_c_19 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_c_20 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_c_21 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_c_22 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_v246 : Ref sig .tc := ⟨.hbm, 277, rfl⟩
abbrev main_v247 : Ref sig .tc := ⟨.hbm, 278, rfl⟩
abbrev main_v248 : Ref sig .tc := ⟨.hbm, 279, rfl⟩
abbrev main_v249 : Ref sig .tc := ⟨.hbm, 280, rfl⟩
abbrev main_c_23 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_v258 : Ref sig .tc := ⟨.hbm, 290, rfl⟩
abbrev main_v259 : Ref sig .tc := ⟨.hbm, 291, rfl⟩
abbrev main_v260 : Ref sig .tc := ⟨.hbm, 292, rfl⟩
abbrev main_c_24 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_c_25 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_c_26 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_v289 : Ref sig .tc := ⟨.hbm, 324, rfl⟩
abbrev main_v290_0 : Ref sig .tc := ⟨.hbm, 325, rfl⟩
abbrev main_v290_1 : Ref sig .tc := ⟨.hbm, 326, rfl⟩
abbrev main_v290_2 : Ref sig .tc := ⟨.hbm, 327, rfl⟩
abbrev main_cst_27 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_c_28 : Ref sig .tc := ⟨.hbm, 334, rfl⟩
abbrev main_v296 : Ref sig .tc := ⟨.hbm, 335, rfl⟩
abbrev main_v297 : Ref sig .tc := ⟨.hbm, 336, rfl⟩
abbrev main_v298 : Ref sig .tc := ⟨.hbm, 337, rfl⟩
abbrev main_v299 : Ref sig .tc := ⟨.hbm, 338, rfl⟩
abbrev main_v300 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_v305 : Ref sig .tc := ⟨.hbm, 344, rfl⟩
abbrev main_v306 : Ref sig .tc := ⟨.hbm, 345, rfl⟩
abbrev main_c_29 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_c_30 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_c_31 : Ref sig .tc := ⟨.hbm, 370, rfl⟩
abbrev main_v329 : Ref sig .tc := ⟨.hbm, 371, rfl⟩
abbrev main_v330 : Ref sig .tc := ⟨.hbm, 372, rfl⟩
abbrev main_v331 : Ref sig .tc := ⟨.hbm, 373, rfl⟩
abbrev main_v332 : Ref sig .tc := ⟨.hbm, 374, rfl⟩
abbrev main_v333 : Ref sig .tc := ⟨.hbm, 375, rfl⟩
abbrev main_v334 : Ref sig .tc := ⟨.hbm, 376, rfl⟩
abbrev main_v335 : Ref sig .tc := ⟨.hbm, 377, rfl⟩
abbrev main_v336 : Ref sig .tc := ⟨.hbm, 378, rfl⟩
abbrev main_v337 : Ref sig .tc := ⟨.hbm, 379, rfl⟩
abbrev main_v338 : Ref sig .tc := ⟨.hbm, 380, rfl⟩
abbrev main_v339 : Ref sig .tc := ⟨.hbm, 381, rfl⟩
abbrev main_c_32 : Ref sig .tc := ⟨.hbm, 382, rfl⟩
abbrev main_v340 : Ref sig .tc := ⟨.hbm, 383, rfl⟩
abbrev main_v341 : Ref sig .tc := ⟨.hbm, 384, rfl⟩
abbrev main_v342 : Ref sig .tc := ⟨.hbm, 385, rfl⟩
abbrev main_v343 : Ref sig .tc := ⟨.hbm, 386, rfl⟩
abbrev main_v344 : Ref sig .tc := ⟨.hbm, 387, rfl⟩
abbrev main_v345 : Ref sig .tc := ⟨.hbm, 388, rfl⟩
abbrev main_v346 : Ref sig .tc := ⟨.hbm, 389, rfl⟩
abbrev main_v347 : Ref sig .tc := ⟨.hbm, 390, rfl⟩
abbrev main_v348 : Ref sig .tc := ⟨.hbm, 391, rfl⟩
abbrev main_v349 : Ref sig .tc := ⟨.hbm, 392, rfl⟩
abbrev main_v350 : Ref sig .tc := ⟨.hbm, 393, rfl⟩
abbrev main_c_33 : Ref sig .tc := ⟨.hbm, 394, rfl⟩
abbrev main_v351 : Ref sig .tc := ⟨.hbm, 395, rfl⟩
abbrev main_v352 : Ref sig .tc := ⟨.hbm, 396, rfl⟩
abbrev main_v353 : Ref sig .tc := ⟨.hbm, 397, rfl⟩
abbrev main_v354 : Ref sig .tc := ⟨.hbm, 398, rfl⟩
abbrev main_v355 : Ref sig .tc := ⟨.hbm, 399, rfl⟩
abbrev main_v356 : Ref sig .tc := ⟨.hbm, 400, rfl⟩
abbrev main_v357 : Ref sig .tc := ⟨.hbm, 401, rfl⟩
abbrev main_v358 : Ref sig .tc := ⟨.hbm, 402, rfl⟩
abbrev main_v359 : Ref sig .tc := ⟨.hbm, 403, rfl⟩
abbrev main_v360 : Ref sig .tc := ⟨.hbm, 404, rfl⟩
abbrev main_v361 : Ref sig .tc := ⟨.hbm, 405, rfl⟩
abbrev main_c_34 : Ref sig .tc := ⟨.hbm, 406, rfl⟩
abbrev main_v362 : Ref sig .tc := ⟨.hbm, 407, rfl⟩
abbrev main_v363 : Ref sig .tc := ⟨.hbm, 408, rfl⟩
abbrev main_v364 : Ref sig .tc := ⟨.hbm, 409, rfl⟩
abbrev main_v365 : Ref sig .tc := ⟨.hbm, 410, rfl⟩
abbrev main_v366 : Ref sig .tc := ⟨.hbm, 411, rfl⟩
abbrev main_v367 : Ref sig .tc := ⟨.hbm, 412, rfl⟩
abbrev main_v368 : Ref sig .tc := ⟨.hbm, 413, rfl⟩
abbrev main_v369 : Ref sig .tc := ⟨.hbm, 414, rfl⟩
abbrev main_v370 : Ref sig .tc := ⟨.hbm, 415, rfl⟩
abbrev main_v371 : Ref sig .tc := ⟨.hbm, 416, rfl⟩
abbrev main_v372 : Ref sig .tc := ⟨.hbm, 417, rfl⟩
abbrev main_c_35 : Ref sig .tc := ⟨.hbm, 418, rfl⟩
abbrev main_v373 : Ref sig .tc := ⟨.hbm, 419, rfl⟩
abbrev main_v374 : Ref sig .tc := ⟨.hbm, 420, rfl⟩
abbrev main_v375 : Ref sig .tc := ⟨.hbm, 421, rfl⟩
abbrev main_v376 : Ref sig .tc := ⟨.hbm, 422, rfl⟩
abbrev main_v377 : Ref sig .tc := ⟨.hbm, 423, rfl⟩
abbrev main_v378 : Ref sig .tc := ⟨.hbm, 424, rfl⟩
abbrev main_v379 : Ref sig .tc := ⟨.hbm, 425, rfl⟩
abbrev main_v380 : Ref sig .tc := ⟨.hbm, 426, rfl⟩
abbrev main_v381 : Ref sig .tc := ⟨.hbm, 427, rfl⟩
abbrev main_v382 : Ref sig .tc := ⟨.hbm, 428, rfl⟩
abbrev main_v383 : Ref sig .tc := ⟨.hbm, 429, rfl⟩
abbrev main_c_36 : Ref sig .tc := ⟨.hbm, 430, rfl⟩
abbrev main_v384 : Ref sig .tc := ⟨.hbm, 431, rfl⟩
abbrev main_v385 : Ref sig .tc := ⟨.hbm, 432, rfl⟩
abbrev main_v386 : Ref sig .tc := ⟨.hbm, 433, rfl⟩
abbrev main_v387 : Ref sig .tc := ⟨.hbm, 434, rfl⟩
abbrev main_v388 : Ref sig .tc := ⟨.hbm, 435, rfl⟩
abbrev main_v389 : Ref sig .tc := ⟨.hbm, 436, rfl⟩
abbrev main_v390 : Ref sig .tc := ⟨.hbm, 437, rfl⟩
abbrev main_v391 : Ref sig .tc := ⟨.hbm, 438, rfl⟩
abbrev main_v392 : Ref sig .tc := ⟨.hbm, 439, rfl⟩
abbrev main_v393 : Ref sig .tc := ⟨.hbm, 440, rfl⟩
abbrev main_v394 : Ref sig .tc := ⟨.hbm, 441, rfl⟩
abbrev main_c_37 : Ref sig .tc := ⟨.hbm, 442, rfl⟩
abbrev main_v395 : Ref sig .tc := ⟨.hbm, 443, rfl⟩
abbrev main_v396 : Ref sig .tc := ⟨.hbm, 444, rfl⟩
abbrev main_v397 : Ref sig .tc := ⟨.hbm, 445, rfl⟩
abbrev main_v398 : Ref sig .tc := ⟨.hbm, 446, rfl⟩
abbrev main_v399 : Ref sig .tc := ⟨.hbm, 447, rfl⟩
abbrev main_v400 : Ref sig .tc := ⟨.hbm, 448, rfl⟩
abbrev main_v401 : Ref sig .tc := ⟨.hbm, 449, rfl⟩
abbrev main_v402 : Ref sig .tc := ⟨.hbm, 450, rfl⟩
abbrev main_v403 : Ref sig .tc := ⟨.hbm, 451, rfl⟩
abbrev main_v404 : Ref sig .tc := ⟨.hbm, 452, rfl⟩
abbrev main_v405 : Ref sig .tc := ⟨.hbm, 453, rfl⟩
abbrev main_c_38 : Ref sig .tc := ⟨.hbm, 454, rfl⟩
abbrev main_v406 : Ref sig .tc := ⟨.hbm, 455, rfl⟩
abbrev main_v407 : Ref sig .tc := ⟨.hbm, 456, rfl⟩
abbrev main_v408 : Ref sig .tc := ⟨.hbm, 457, rfl⟩
abbrev main_v409 : Ref sig .tc := ⟨.hbm, 458, rfl⟩
abbrev main_v410 : Ref sig .tc := ⟨.hbm, 459, rfl⟩
abbrev main_v411 : Ref sig .tc := ⟨.hbm, 460, rfl⟩
abbrev main_v412 : Ref sig .tc := ⟨.hbm, 461, rfl⟩
abbrev main_v413 : Ref sig .tc := ⟨.hbm, 462, rfl⟩
abbrev main_v414 : Ref sig .tc := ⟨.hbm, 463, rfl⟩
abbrev main_v415 : Ref sig .tc := ⟨.hbm, 464, rfl⟩
abbrev main_v416 : Ref sig .tc := ⟨.hbm, 465, rfl⟩
abbrev main_c_39 : Ref sig .tc := ⟨.hbm, 466, rfl⟩
abbrev main_v417 : Ref sig .tc := ⟨.hbm, 467, rfl⟩
abbrev main_v418 : Ref sig .tc := ⟨.hbm, 468, rfl⟩
abbrev main_v419 : Ref sig .tc := ⟨.hbm, 469, rfl⟩
abbrev main_v420 : Ref sig .tc := ⟨.hbm, 470, rfl⟩
abbrev main_v421 : Ref sig .tc := ⟨.hbm, 471, rfl⟩
abbrev main_v422 : Ref sig .tc := ⟨.hbm, 472, rfl⟩
abbrev main_v423 : Ref sig .tc := ⟨.hbm, 473, rfl⟩
abbrev main_v424 : Ref sig .tc := ⟨.hbm, 474, rfl⟩
abbrev main_v425 : Ref sig .tc := ⟨.hbm, 475, rfl⟩
abbrev main_v426 : Ref sig .tc := ⟨.hbm, 476, rfl⟩
abbrev main_v427 : Ref sig .tc := ⟨.hbm, 477, rfl⟩
abbrev main_c_40 : Ref sig .tc := ⟨.hbm, 478, rfl⟩
abbrev main_v428 : Ref sig .tc := ⟨.hbm, 479, rfl⟩
abbrev main_v429 : Ref sig .tc := ⟨.hbm, 480, rfl⟩
abbrev main_v430 : Ref sig .tc := ⟨.hbm, 481, rfl⟩
abbrev main_v431 : Ref sig .tc := ⟨.hbm, 482, rfl⟩
abbrev main_v432 : Ref sig .tc := ⟨.hbm, 483, rfl⟩
abbrev main_v433 : Ref sig .tc := ⟨.hbm, 484, rfl⟩
abbrev main_v434 : Ref sig .tc := ⟨.hbm, 485, rfl⟩
abbrev main_v435 : Ref sig .tc := ⟨.hbm, 486, rfl⟩
abbrev main_v436 : Ref sig .tc := ⟨.hbm, 487, rfl⟩
abbrev main_v437 : Ref sig .tc := ⟨.hbm, 488, rfl⟩
abbrev main_v438 : Ref sig .tc := ⟨.hbm, 489, rfl⟩
abbrev main_c_41 : Ref sig .tc := ⟨.hbm, 490, rfl⟩
abbrev main_v439 : Ref sig .tc := ⟨.hbm, 491, rfl⟩
abbrev main_v440 : Ref sig .tc := ⟨.hbm, 492, rfl⟩
abbrev main_v441 : Ref sig .tc := ⟨.hbm, 493, rfl⟩
abbrev main_v442 : Ref sig .tc := ⟨.hbm, 494, rfl⟩
abbrev main_v443 : Ref sig .tc := ⟨.hbm, 495, rfl⟩
abbrev main_v444 : Ref sig .tc := ⟨.hbm, 496, rfl⟩
abbrev main_v445 : Ref sig .tc := ⟨.hbm, 497, rfl⟩
abbrev main_v446 : Ref sig .tc := ⟨.hbm, 498, rfl⟩
abbrev main_v447 : Ref sig .tc := ⟨.hbm, 499, rfl⟩
abbrev main_v448 : Ref sig .tc := ⟨.hbm, 500, rfl⟩
abbrev main_v449 : Ref sig .tc := ⟨.hbm, 501, rfl⟩
abbrev main_c_42 : Ref sig .tc := ⟨.hbm, 502, rfl⟩
abbrev main_v450 : Ref sig .tc := ⟨.hbm, 503, rfl⟩
abbrev main_v451 : Ref sig .tc := ⟨.hbm, 504, rfl⟩
abbrev main_v452 : Ref sig .tc := ⟨.hbm, 505, rfl⟩
abbrev main_v453 : Ref sig .tc := ⟨.hbm, 506, rfl⟩
abbrev main_v454 : Ref sig .tc := ⟨.hbm, 507, rfl⟩
abbrev main_v455 : Ref sig .tc := ⟨.hbm, 508, rfl⟩
abbrev main_v456 : Ref sig .tc := ⟨.hbm, 509, rfl⟩
abbrev main_v457 : Ref sig .tc := ⟨.hbm, 510, rfl⟩
abbrev main_v458 : Ref sig .tc := ⟨.hbm, 511, rfl⟩
abbrev main_v459 : Ref sig .tc := ⟨.hbm, 512, rfl⟩
abbrev main_v460 : Ref sig .tc := ⟨.hbm, 513, rfl⟩
abbrev main_c_43 : Ref sig .tc := ⟨.hbm, 514, rfl⟩
abbrev main_v461 : Ref sig .tc := ⟨.hbm, 515, rfl⟩
abbrev main_v462 : Ref sig .tc := ⟨.hbm, 516, rfl⟩
abbrev main_v463 : Ref sig .tc := ⟨.hbm, 517, rfl⟩
abbrev main_v464 : Ref sig .tc := ⟨.hbm, 518, rfl⟩
abbrev main_v465 : Ref sig .tc := ⟨.hbm, 519, rfl⟩
abbrev main_v466 : Ref sig .tc := ⟨.hbm, 520, rfl⟩
abbrev main_v467 : Ref sig .tc := ⟨.hbm, 521, rfl⟩
abbrev main_v468 : Ref sig .tc := ⟨.hbm, 522, rfl⟩
abbrev main_v469 : Ref sig .tc := ⟨.hbm, 523, rfl⟩
abbrev main_v470 : Ref sig .tc := ⟨.hbm, 524, rfl⟩
abbrev main_v471 : Ref sig .tc := ⟨.hbm, 525, rfl⟩
abbrev main_c_44 : Ref sig .tc := ⟨.hbm, 526, rfl⟩
abbrev main_v472 : Ref sig .tc := ⟨.hbm, 527, rfl⟩
abbrev main_v473 : Ref sig .tc := ⟨.hbm, 528, rfl⟩
abbrev main_v474 : Ref sig .tc := ⟨.hbm, 529, rfl⟩
abbrev main_v475 : Ref sig .tc := ⟨.hbm, 530, rfl⟩
abbrev main_v476 : Ref sig .tc := ⟨.hbm, 531, rfl⟩
abbrev main_v477 : Ref sig .tc := ⟨.hbm, 532, rfl⟩
abbrev main_v478 : Ref sig .tc := ⟨.hbm, 533, rfl⟩
abbrev main_v479 : Ref sig .tc := ⟨.hbm, 534, rfl⟩
abbrev main_v480 : Ref sig .tc := ⟨.hbm, 535, rfl⟩
abbrev main_v481 : Ref sig .tc := ⟨.hbm, 536, rfl⟩
abbrev main_v482 : Ref sig .tc := ⟨.hbm, 537, rfl⟩
abbrev main_c_45 : Ref sig .tc := ⟨.hbm, 538, rfl⟩
abbrev main_v483 : Ref sig .tc := ⟨.hbm, 539, rfl⟩
abbrev main_v484 : Ref sig .tc := ⟨.hbm, 540, rfl⟩
abbrev main_v485 : Ref sig .tc := ⟨.hbm, 541, rfl⟩
abbrev main_v486 : Ref sig .tc := ⟨.hbm, 542, rfl⟩
abbrev main_v487 : Ref sig .tc := ⟨.hbm, 543, rfl⟩
abbrev main_v488 : Ref sig .tc := ⟨.hbm, 544, rfl⟩
abbrev main_v489 : Ref sig .tc := ⟨.hbm, 545, rfl⟩
abbrev main_v490 : Ref sig .tc := ⟨.hbm, 546, rfl⟩
abbrev main_v491 : Ref sig .tc := ⟨.hbm, 547, rfl⟩
abbrev main_v492 : Ref sig .tc := ⟨.hbm, 548, rfl⟩
abbrev main_v493 : Ref sig .tc := ⟨.hbm, 549, rfl⟩
abbrev main_c_46 : Ref sig .tc := ⟨.hbm, 550, rfl⟩
abbrev main_v494 : Ref sig .tc := ⟨.hbm, 551, rfl⟩
abbrev main_v495 : Ref sig .tc := ⟨.hbm, 552, rfl⟩
abbrev main_v496 : Ref sig .tc := ⟨.hbm, 553, rfl⟩
abbrev main_v497 : Ref sig .tc := ⟨.hbm, 554, rfl⟩
abbrev main_v498 : Ref sig .tc := ⟨.hbm, 555, rfl⟩
abbrev main_v499 : Ref sig .tc := ⟨.hbm, 556, rfl⟩
abbrev main_v500 : Ref sig .tc := ⟨.hbm, 557, rfl⟩
abbrev main_v501 : Ref sig .tc := ⟨.hbm, 558, rfl⟩
abbrev main_v502 : Ref sig .tc := ⟨.hbm, 559, rfl⟩
abbrev main_v503 : Ref sig .tc := ⟨.hbm, 560, rfl⟩
abbrev main_v504 : Ref sig .tc := ⟨.hbm, 561, rfl⟩
abbrev main_c_47 : Ref sig .tc := ⟨.hbm, 562, rfl⟩
abbrev main_v505 : Ref sig .tc := ⟨.hbm, 563, rfl⟩
abbrev main_v506 : Ref sig .tc := ⟨.hbm, 564, rfl⟩
abbrev main_v507 : Ref sig .tc := ⟨.hbm, 565, rfl⟩
abbrev main_v508 : Ref sig .tc := ⟨.hbm, 566, rfl⟩
abbrev main_v509 : Ref sig .tc := ⟨.hbm, 567, rfl⟩
abbrev main_v510 : Ref sig .tc := ⟨.hbm, 568, rfl⟩
abbrev main_v511 : Ref sig .tc := ⟨.hbm, 569, rfl⟩
abbrev main_v512 : Ref sig .tc := ⟨.hbm, 570, rfl⟩
abbrev main_v513 : Ref sig .tc := ⟨.hbm, 571, rfl⟩
abbrev main_v514 : Ref sig .tc := ⟨.hbm, 572, rfl⟩
abbrev main_v515 : Ref sig .tc := ⟨.hbm, 573, rfl⟩
abbrev main_c_48 : Ref sig .tc := ⟨.hbm, 574, rfl⟩
abbrev main_v516 : Ref sig .tc := ⟨.hbm, 575, rfl⟩
abbrev main_v517 : Ref sig .tc := ⟨.hbm, 576, rfl⟩
abbrev main_v518 : Ref sig .tc := ⟨.hbm, 577, rfl⟩
abbrev main_v519 : Ref sig .tc := ⟨.hbm, 578, rfl⟩
abbrev main_v520 : Ref sig .tc := ⟨.hbm, 579, rfl⟩
abbrev main_v521 : Ref sig .tc := ⟨.hbm, 580, rfl⟩
abbrev main_v522 : Ref sig .tc := ⟨.hbm, 581, rfl⟩
abbrev main_v523 : Ref sig .tc := ⟨.hbm, 582, rfl⟩
abbrev main_v524 : Ref sig .tc := ⟨.hbm, 583, rfl⟩
abbrev main_v525 : Ref sig .tc := ⟨.hbm, 584, rfl⟩
abbrev main_v526 : Ref sig .tc := ⟨.hbm, 585, rfl⟩
abbrev main_c_49 : Ref sig .tc := ⟨.hbm, 586, rfl⟩
abbrev main_v527 : Ref sig .tc := ⟨.hbm, 587, rfl⟩
abbrev main_v528 : Ref sig .tc := ⟨.hbm, 588, rfl⟩
abbrev main_v529 : Ref sig .tc := ⟨.hbm, 589, rfl⟩
abbrev main_v530 : Ref sig .tc := ⟨.hbm, 590, rfl⟩
abbrev main_v531 : Ref sig .tc := ⟨.hbm, 591, rfl⟩
abbrev main_v532 : Ref sig .tc := ⟨.hbm, 592, rfl⟩
abbrev main_v533 : Ref sig .tc := ⟨.hbm, 593, rfl⟩
abbrev main_v534 : Ref sig .tc := ⟨.hbm, 594, rfl⟩
abbrev main_v535 : Ref sig .tc := ⟨.hbm, 595, rfl⟩
abbrev main_v536 : Ref sig .tc := ⟨.hbm, 596, rfl⟩
abbrev main_v537 : Ref sig .tc := ⟨.hbm, 597, rfl⟩
abbrev main_c_50 : Ref sig .tc := ⟨.hbm, 598, rfl⟩
abbrev main_v538 : Ref sig .tc := ⟨.hbm, 599, rfl⟩
abbrev main_v539 : Ref sig .tc := ⟨.hbm, 600, rfl⟩
abbrev main_v540 : Ref sig .tc := ⟨.hbm, 601, rfl⟩
abbrev main_v541 : Ref sig .tc := ⟨.hbm, 602, rfl⟩
abbrev main_v542 : Ref sig .tc := ⟨.hbm, 603, rfl⟩
abbrev main_v543 : Ref sig .tc := ⟨.hbm, 604, rfl⟩
abbrev main_v544 : Ref sig .tc := ⟨.hbm, 605, rfl⟩
abbrev main_v545 : Ref sig .tc := ⟨.hbm, 606, rfl⟩
abbrev main_v546 : Ref sig .tc := ⟨.hbm, 607, rfl⟩
abbrev main_v547 : Ref sig .tc := ⟨.hbm, 608, rfl⟩
abbrev main_v548 : Ref sig .tc := ⟨.hbm, 609, rfl⟩
abbrev main_c_51 : Ref sig .tc := ⟨.hbm, 610, rfl⟩
abbrev main_v549 : Ref sig .tc := ⟨.hbm, 611, rfl⟩
abbrev main_v550 : Ref sig .tc := ⟨.hbm, 612, rfl⟩
abbrev main_v551 : Ref sig .tc := ⟨.hbm, 613, rfl⟩
abbrev main_v552 : Ref sig .tc := ⟨.hbm, 614, rfl⟩
abbrev main_v553 : Ref sig .tc := ⟨.hbm, 615, rfl⟩
abbrev main_v554 : Ref sig .tc := ⟨.hbm, 616, rfl⟩
abbrev main_v555 : Ref sig .tc := ⟨.hbm, 617, rfl⟩
abbrev main_v556 : Ref sig .tc := ⟨.hbm, 618, rfl⟩
abbrev main_v557 : Ref sig .tc := ⟨.hbm, 619, rfl⟩
abbrev main_v558 : Ref sig .tc := ⟨.hbm, 620, rfl⟩
abbrev main_v559 : Ref sig .tc := ⟨.hbm, 621, rfl⟩
abbrev main_c_52 : Ref sig .tc := ⟨.hbm, 622, rfl⟩
abbrev main_v560 : Ref sig .tc := ⟨.hbm, 623, rfl⟩
abbrev main_v561 : Ref sig .tc := ⟨.hbm, 624, rfl⟩
abbrev main_v562 : Ref sig .tc := ⟨.hbm, 625, rfl⟩
abbrev main_v563 : Ref sig .tc := ⟨.hbm, 626, rfl⟩
abbrev main_v564 : Ref sig .tc := ⟨.hbm, 627, rfl⟩
abbrev main_v565 : Ref sig .tc := ⟨.hbm, 628, rfl⟩
abbrev main_v566 : Ref sig .tc := ⟨.hbm, 629, rfl⟩
abbrev main_v567 : Ref sig .tc := ⟨.hbm, 630, rfl⟩
abbrev main_v568 : Ref sig .tc := ⟨.hbm, 631, rfl⟩
abbrev main_v569 : Ref sig .tc := ⟨.hbm, 632, rfl⟩
abbrev main_v570 : Ref sig .tc := ⟨.hbm, 633, rfl⟩
abbrev main_c_53 : Ref sig .tc := ⟨.hbm, 634, rfl⟩
abbrev main_v571 : Ref sig .tc := ⟨.hbm, 635, rfl⟩
abbrev main_v572 : Ref sig .tc := ⟨.hbm, 636, rfl⟩
abbrev main_v573 : Ref sig .tc := ⟨.hbm, 637, rfl⟩
abbrev main_v574 : Ref sig .tc := ⟨.hbm, 638, rfl⟩
abbrev main_v575 : Ref sig .tc := ⟨.hbm, 639, rfl⟩
abbrev main_v576 : Ref sig .tc := ⟨.hbm, 640, rfl⟩
abbrev main_v577 : Ref sig .tc := ⟨.hbm, 641, rfl⟩
abbrev main_v578 : Ref sig .tc := ⟨.hbm, 642, rfl⟩
abbrev main_v579 : Ref sig .tc := ⟨.hbm, 643, rfl⟩
abbrev main_v580 : Ref sig .tc := ⟨.hbm, 644, rfl⟩
abbrev main_v581 : Ref sig .tc := ⟨.hbm, 645, rfl⟩
abbrev main_c_54 : Ref sig .tc := ⟨.hbm, 646, rfl⟩
abbrev main_v582 : Ref sig .tc := ⟨.hbm, 647, rfl⟩
abbrev main_v583 : Ref sig .tc := ⟨.hbm, 648, rfl⟩
abbrev main_v584 : Ref sig .tc := ⟨.hbm, 649, rfl⟩
abbrev main_v585 : Ref sig .tc := ⟨.hbm, 650, rfl⟩
abbrev main_v586 : Ref sig .tc := ⟨.hbm, 651, rfl⟩
abbrev main_v587 : Ref sig .tc := ⟨.hbm, 652, rfl⟩
abbrev main_v588 : Ref sig .tc := ⟨.hbm, 653, rfl⟩
abbrev main_v589 : Ref sig .tc := ⟨.hbm, 654, rfl⟩
abbrev main_v590 : Ref sig .tc := ⟨.hbm, 655, rfl⟩
abbrev main_v591 : Ref sig .tc := ⟨.hbm, 656, rfl⟩
abbrev main_v592 : Ref sig .tc := ⟨.hbm, 657, rfl⟩
abbrev main_c_55 : Ref sig .tc := ⟨.hbm, 658, rfl⟩
abbrev main_v593 : Ref sig .tc := ⟨.hbm, 659, rfl⟩
abbrev main_v594 : Ref sig .tc := ⟨.hbm, 660, rfl⟩
abbrev main_v595 : Ref sig .tc := ⟨.hbm, 661, rfl⟩
abbrev main_v596 : Ref sig .tc := ⟨.hbm, 662, rfl⟩
abbrev main_v597 : Ref sig .tc := ⟨.hbm, 663, rfl⟩
abbrev main_v598 : Ref sig .tc := ⟨.hbm, 664, rfl⟩
abbrev main_v599 : Ref sig .tc := ⟨.hbm, 665, rfl⟩
abbrev main_v600 : Ref sig .tc := ⟨.hbm, 666, rfl⟩
abbrev main_v601 : Ref sig .tc := ⟨.hbm, 667, rfl⟩
abbrev main_v602 : Ref sig .tc := ⟨.hbm, 668, rfl⟩
abbrev main_v603 : Ref sig .tc := ⟨.hbm, 669, rfl⟩
abbrev main_c_56 : Ref sig .tc := ⟨.hbm, 670, rfl⟩
abbrev main_v604 : Ref sig .tc := ⟨.hbm, 671, rfl⟩
abbrev main_v605 : Ref sig .tc := ⟨.hbm, 672, rfl⟩
abbrev main_v606 : Ref sig .tc := ⟨.hbm, 673, rfl⟩
abbrev main_v607 : Ref sig .tc := ⟨.hbm, 674, rfl⟩
abbrev main_v608 : Ref sig .tc := ⟨.hbm, 675, rfl⟩
abbrev main_v609 : Ref sig .tc := ⟨.hbm, 676, rfl⟩
abbrev main_v610 : Ref sig .tc := ⟨.hbm, 677, rfl⟩
abbrev main_v611 : Ref sig .tc := ⟨.hbm, 678, rfl⟩
abbrev main_v612 : Ref sig .tc := ⟨.hbm, 679, rfl⟩
abbrev main_v613 : Ref sig .tc := ⟨.hbm, 680, rfl⟩
abbrev main_v614 : Ref sig .tc := ⟨.hbm, 681, rfl⟩
abbrev main_c_57 : Ref sig .tc := ⟨.hbm, 682, rfl⟩
abbrev main_v615 : Ref sig .tc := ⟨.hbm, 683, rfl⟩
abbrev main_v616 : Ref sig .tc := ⟨.hbm, 684, rfl⟩
abbrev main_v617 : Ref sig .tc := ⟨.hbm, 685, rfl⟩
abbrev main_v618 : Ref sig .tc := ⟨.hbm, 686, rfl⟩
abbrev main_v619 : Ref sig .tc := ⟨.hbm, 687, rfl⟩
abbrev main_v620 : Ref sig .tc := ⟨.hbm, 688, rfl⟩
abbrev main_v621 : Ref sig .tc := ⟨.hbm, 689, rfl⟩
abbrev main_v622 : Ref sig .tc := ⟨.hbm, 690, rfl⟩
abbrev main_v623 : Ref sig .tc := ⟨.hbm, 691, rfl⟩
abbrev main_v624 : Ref sig .tc := ⟨.hbm, 692, rfl⟩
abbrev main_v625 : Ref sig .tc := ⟨.hbm, 693, rfl⟩
abbrev main_c_58 : Ref sig .tc := ⟨.hbm, 694, rfl⟩
abbrev main_v626 : Ref sig .tc := ⟨.hbm, 695, rfl⟩
abbrev main_v627 : Ref sig .tc := ⟨.hbm, 696, rfl⟩
abbrev main_v628 : Ref sig .tc := ⟨.hbm, 697, rfl⟩
abbrev main_v629 : Ref sig .tc := ⟨.hbm, 698, rfl⟩
abbrev main_v630 : Ref sig .tc := ⟨.hbm, 699, rfl⟩
abbrev main_v631 : Ref sig .tc := ⟨.hbm, 700, rfl⟩
abbrev main_v632 : Ref sig .tc := ⟨.hbm, 701, rfl⟩
abbrev main_v633 : Ref sig .tc := ⟨.hbm, 702, rfl⟩
abbrev main_v634 : Ref sig .tc := ⟨.hbm, 703, rfl⟩
abbrev main_v635 : Ref sig .tc := ⟨.hbm, 704, rfl⟩
abbrev main_v636 : Ref sig .tc := ⟨.hbm, 705, rfl⟩
abbrev main_c_59 : Ref sig .tc := ⟨.hbm, 706, rfl⟩
abbrev main_v637 : Ref sig .tc := ⟨.hbm, 707, rfl⟩
abbrev main_v638 : Ref sig .tc := ⟨.hbm, 708, rfl⟩
abbrev main_v639 : Ref sig .tc := ⟨.hbm, 709, rfl⟩
abbrev main_v640 : Ref sig .tc := ⟨.hbm, 710, rfl⟩
abbrev main_v641 : Ref sig .tc := ⟨.hbm, 711, rfl⟩
abbrev main_v642 : Ref sig .tc := ⟨.hbm, 712, rfl⟩
abbrev main_v643 : Ref sig .tc := ⟨.hbm, 713, rfl⟩
abbrev main_v644 : Ref sig .tc := ⟨.hbm, 714, rfl⟩
abbrev main_v645 : Ref sig .tc := ⟨.hbm, 715, rfl⟩
abbrev main_v646 : Ref sig .tc := ⟨.hbm, 716, rfl⟩
abbrev main_v647 : Ref sig .tc := ⟨.hbm, 717, rfl⟩
abbrev main_c_60 : Ref sig .tc := ⟨.hbm, 718, rfl⟩
abbrev main_v648 : Ref sig .tc := ⟨.hbm, 719, rfl⟩
abbrev main_v649 : Ref sig .tc := ⟨.hbm, 720, rfl⟩
abbrev main_v650 : Ref sig .tc := ⟨.hbm, 721, rfl⟩
abbrev main_v651 : Ref sig .tc := ⟨.hbm, 722, rfl⟩
abbrev main_v652 : Ref sig .tc := ⟨.hbm, 723, rfl⟩
abbrev main_v653 : Ref sig .tc := ⟨.hbm, 724, rfl⟩
abbrev main_v654 : Ref sig .tc := ⟨.hbm, 725, rfl⟩
abbrev main_v655 : Ref sig .tc := ⟨.hbm, 726, rfl⟩
abbrev main_v656 : Ref sig .tc := ⟨.hbm, 727, rfl⟩
abbrev main_v657 : Ref sig .tc := ⟨.hbm, 728, rfl⟩
abbrev main_v658 : Ref sig .tc := ⟨.hbm, 729, rfl⟩
abbrev main_c_61 : Ref sig .tc := ⟨.hbm, 730, rfl⟩
abbrev main_v659 : Ref sig .tc := ⟨.hbm, 731, rfl⟩
abbrev main_v660 : Ref sig .tc := ⟨.hbm, 732, rfl⟩
abbrev main_v661 : Ref sig .tc := ⟨.hbm, 733, rfl⟩
abbrev main_v662 : Ref sig .tc := ⟨.hbm, 734, rfl⟩
abbrev main_v663 : Ref sig .tc := ⟨.hbm, 735, rfl⟩
abbrev main_v664 : Ref sig .tc := ⟨.hbm, 736, rfl⟩
abbrev main_v665 : Ref sig .tc := ⟨.hbm, 737, rfl⟩
abbrev main_v666 : Ref sig .tc := ⟨.hbm, 738, rfl⟩
abbrev main_v667 : Ref sig .tc := ⟨.hbm, 739, rfl⟩
abbrev main_v668 : Ref sig .tc := ⟨.hbm, 740, rfl⟩
abbrev main_v669 : Ref sig .tc := ⟨.hbm, 741, rfl⟩
abbrev main_c_62 : Ref sig .tc := ⟨.hbm, 742, rfl⟩
abbrev main_v670 : Ref sig .tc := ⟨.hbm, 743, rfl⟩
abbrev main_v671 : Ref sig .tc := ⟨.hbm, 744, rfl⟩
abbrev main_v672 : Ref sig .tc := ⟨.hbm, 745, rfl⟩
abbrev main_v673 : Ref sig .tc := ⟨.hbm, 746, rfl⟩
abbrev main_v674 : Ref sig .tc := ⟨.hbm, 747, rfl⟩
abbrev main_v675 : Ref sig .tc := ⟨.hbm, 748, rfl⟩
abbrev main_v676 : Ref sig .tc := ⟨.hbm, 749, rfl⟩
abbrev main_v677 : Ref sig .tc := ⟨.hbm, 750, rfl⟩
abbrev main_v678 : Ref sig .tc := ⟨.hbm, 751, rfl⟩
abbrev main_v679 : Ref sig .tc := ⟨.hbm, 752, rfl⟩
abbrev main_v680 : Ref sig .tc := ⟨.hbm, 753, rfl⟩
abbrev main_c_63 : Ref sig .tc := ⟨.hbm, 754, rfl⟩
abbrev main_v681 : Ref sig .tc := ⟨.hbm, 755, rfl⟩
abbrev main_v682 : Ref sig .tc := ⟨.hbm, 756, rfl⟩
abbrev main_v683 : Ref sig .tc := ⟨.hbm, 757, rfl⟩
abbrev main_v684 : Ref sig .tc := ⟨.hbm, 758, rfl⟩
abbrev main_v685 : Ref sig .tc := ⟨.hbm, 759, rfl⟩
abbrev main_v686 : Ref sig .tc := ⟨.hbm, 760, rfl⟩
abbrev main_v687 : Ref sig .tc := ⟨.hbm, 761, rfl⟩
abbrev main_v688 : Ref sig .tc := ⟨.hbm, 762, rfl⟩
abbrev main_v689 : Ref sig .tc := ⟨.hbm, 763, rfl⟩
abbrev main_v690 : Ref sig .tc := ⟨.hbm, 764, rfl⟩
abbrev main_v691 : Ref sig .tc := ⟨.hbm, 765, rfl⟩
abbrev main_c_64 : Ref sig .tc := ⟨.hbm, 766, rfl⟩
abbrev main_v692 : Ref sig .tc := ⟨.hbm, 767, rfl⟩
abbrev main_v693 : Ref sig .tc := ⟨.hbm, 768, rfl⟩
abbrev main_v694 : Ref sig .tc := ⟨.hbm, 769, rfl⟩
abbrev main_v695 : Ref sig .tc := ⟨.hbm, 770, rfl⟩
abbrev main_v696 : Ref sig .tc := ⟨.hbm, 771, rfl⟩
abbrev main_v697 : Ref sig .tc := ⟨.hbm, 772, rfl⟩
abbrev main_v698 : Ref sig .tc := ⟨.hbm, 773, rfl⟩
abbrev main_v699 : Ref sig .tc := ⟨.hbm, 774, rfl⟩
abbrev main_v700 : Ref sig .tc := ⟨.hbm, 775, rfl⟩
abbrev main_v701 : Ref sig .tc := ⟨.hbm, 776, rfl⟩
abbrev main_v702 : Ref sig .tc := ⟨.hbm, 777, rfl⟩
abbrev main_c_65 : Ref sig .tc := ⟨.hbm, 778, rfl⟩
abbrev main_v703 : Ref sig .tc := ⟨.hbm, 779, rfl⟩
abbrev main_v704 : Ref sig .tc := ⟨.hbm, 780, rfl⟩
abbrev main_v705 : Ref sig .tc := ⟨.hbm, 781, rfl⟩
abbrev main_v706 : Ref sig .tc := ⟨.hbm, 782, rfl⟩
abbrev main_v707 : Ref sig .tc := ⟨.hbm, 783, rfl⟩
abbrev main_v708 : Ref sig .tc := ⟨.hbm, 784, rfl⟩
abbrev main_v709 : Ref sig .tc := ⟨.hbm, 785, rfl⟩
abbrev main_v710 : Ref sig .tc := ⟨.hbm, 786, rfl⟩
abbrev main_v711 : Ref sig .tc := ⟨.hbm, 787, rfl⟩
abbrev main_v712 : Ref sig .tc := ⟨.hbm, 788, rfl⟩
abbrev main_v713 : Ref sig .tc := ⟨.hbm, 789, rfl⟩
abbrev main_c_66 : Ref sig .tc := ⟨.hbm, 790, rfl⟩
abbrev main_v714 : Ref sig .tc := ⟨.hbm, 791, rfl⟩
abbrev main_v715 : Ref sig .tc := ⟨.hbm, 792, rfl⟩
abbrev main_v716 : Ref sig .tc := ⟨.hbm, 793, rfl⟩
abbrev main_v717 : Ref sig .tc := ⟨.hbm, 794, rfl⟩
abbrev main_v718 : Ref sig .tc := ⟨.hbm, 795, rfl⟩
abbrev main_v719 : Ref sig .tc := ⟨.hbm, 796, rfl⟩
abbrev main_v720 : Ref sig .tc := ⟨.hbm, 797, rfl⟩
abbrev main_v721 : Ref sig .tc := ⟨.hbm, 798, rfl⟩
abbrev main_v722 : Ref sig .tc := ⟨.hbm, 799, rfl⟩
abbrev main_v723 : Ref sig .tc := ⟨.hbm, 800, rfl⟩
abbrev main_v724 : Ref sig .tc := ⟨.hbm, 801, rfl⟩
abbrev main_c_67 : Ref sig .tc := ⟨.hbm, 802, rfl⟩
abbrev main_v725 : Ref sig .tc := ⟨.hbm, 803, rfl⟩
abbrev main_v726 : Ref sig .tc := ⟨.hbm, 804, rfl⟩
abbrev main_v727 : Ref sig .tc := ⟨.hbm, 805, rfl⟩
abbrev main_v728 : Ref sig .tc := ⟨.hbm, 806, rfl⟩
abbrev main_v729 : Ref sig .tc := ⟨.hbm, 807, rfl⟩
abbrev main_v730 : Ref sig .tc := ⟨.hbm, 808, rfl⟩
abbrev main_v731 : Ref sig .tc := ⟨.hbm, 809, rfl⟩
abbrev main_v732 : Ref sig .tc := ⟨.hbm, 810, rfl⟩
abbrev main_v733 : Ref sig .tc := ⟨.hbm, 811, rfl⟩
abbrev main_v734 : Ref sig .tc := ⟨.hbm, 812, rfl⟩
abbrev main_v735 : Ref sig .tc := ⟨.hbm, 813, rfl⟩
abbrev main_c_68 : Ref sig .tc := ⟨.hbm, 814, rfl⟩
abbrev main_v736 : Ref sig .tc := ⟨.hbm, 815, rfl⟩
abbrev main_v737 : Ref sig .tc := ⟨.hbm, 816, rfl⟩
abbrev main_v738 : Ref sig .tc := ⟨.hbm, 817, rfl⟩
abbrev main_v739 : Ref sig .tc := ⟨.hbm, 818, rfl⟩
abbrev main_v740 : Ref sig .tc := ⟨.hbm, 819, rfl⟩
abbrev main_v741 : Ref sig .tc := ⟨.hbm, 820, rfl⟩
abbrev main_v742 : Ref sig .tc := ⟨.hbm, 821, rfl⟩
abbrev main_v743 : Ref sig .tc := ⟨.hbm, 822, rfl⟩
abbrev main_v744 : Ref sig .tc := ⟨.hbm, 823, rfl⟩
abbrev main_v745 : Ref sig .tc := ⟨.hbm, 824, rfl⟩
abbrev main_v746 : Ref sig .tc := ⟨.hbm, 825, rfl⟩
abbrev main_c_69 : Ref sig .tc := ⟨.hbm, 826, rfl⟩
abbrev main_v747 : Ref sig .tc := ⟨.hbm, 827, rfl⟩
abbrev main_v748 : Ref sig .tc := ⟨.hbm, 828, rfl⟩
abbrev main_v749 : Ref sig .tc := ⟨.hbm, 829, rfl⟩
abbrev main_v750 : Ref sig .tc := ⟨.hbm, 830, rfl⟩
abbrev main_v751 : Ref sig .tc := ⟨.hbm, 831, rfl⟩
abbrev main_v752 : Ref sig .tc := ⟨.hbm, 832, rfl⟩
abbrev main_v753 : Ref sig .tc := ⟨.hbm, 833, rfl⟩
abbrev main_v754 : Ref sig .tc := ⟨.hbm, 834, rfl⟩
abbrev main_v755 : Ref sig .tc := ⟨.hbm, 835, rfl⟩
abbrev main_v756 : Ref sig .tc := ⟨.hbm, 836, rfl⟩
abbrev main_v757 : Ref sig .tc := ⟨.hbm, 837, rfl⟩
abbrev main_c_70 : Ref sig .tc := ⟨.hbm, 838, rfl⟩
abbrev main_v758 : Ref sig .tc := ⟨.hbm, 839, rfl⟩
abbrev main_v759 : Ref sig .tc := ⟨.hbm, 840, rfl⟩
abbrev main_v760 : Ref sig .tc := ⟨.hbm, 841, rfl⟩
abbrev main_v761 : Ref sig .tc := ⟨.hbm, 842, rfl⟩
abbrev main_v762 : Ref sig .tc := ⟨.hbm, 843, rfl⟩
abbrev main_v763 : Ref sig .tc := ⟨.hbm, 844, rfl⟩
abbrev main_v764 : Ref sig .tc := ⟨.hbm, 845, rfl⟩
abbrev main_v765 : Ref sig .tc := ⟨.hbm, 846, rfl⟩
abbrev main_v766 : Ref sig .tc := ⟨.hbm, 847, rfl⟩
abbrev main_v767 : Ref sig .tc := ⟨.hbm, 848, rfl⟩
abbrev main_v768 : Ref sig .tc := ⟨.hbm, 849, rfl⟩
abbrev main_c_71 : Ref sig .tc := ⟨.hbm, 850, rfl⟩
abbrev main_v769 : Ref sig .tc := ⟨.hbm, 851, rfl⟩
abbrev main_v770 : Ref sig .tc := ⟨.hbm, 852, rfl⟩
abbrev main_v771 : Ref sig .tc := ⟨.hbm, 853, rfl⟩
abbrev main_v772 : Ref sig .tc := ⟨.hbm, 854, rfl⟩
abbrev main_v773 : Ref sig .tc := ⟨.hbm, 855, rfl⟩
abbrev main_v774 : Ref sig .tc := ⟨.hbm, 856, rfl⟩
abbrev main_v775 : Ref sig .tc := ⟨.hbm, 857, rfl⟩
abbrev main_v776 : Ref sig .tc := ⟨.hbm, 858, rfl⟩
abbrev main_v777 : Ref sig .tc := ⟨.hbm, 859, rfl⟩
abbrev main_v778 : Ref sig .tc := ⟨.hbm, 860, rfl⟩
abbrev main_v779 : Ref sig .tc := ⟨.hbm, 861, rfl⟩
abbrev main_c_72 : Ref sig .tc := ⟨.hbm, 862, rfl⟩
abbrev main_v780 : Ref sig .tc := ⟨.hbm, 863, rfl⟩
abbrev main_v781 : Ref sig .tc := ⟨.hbm, 864, rfl⟩
abbrev main_v782 : Ref sig .tc := ⟨.hbm, 865, rfl⟩
abbrev main_v783 : Ref sig .tc := ⟨.hbm, 866, rfl⟩
abbrev main_v784 : Ref sig .tc := ⟨.hbm, 867, rfl⟩
abbrev main_v785 : Ref sig .tc := ⟨.hbm, 868, rfl⟩
abbrev main_v786 : Ref sig .tc := ⟨.hbm, 869, rfl⟩
abbrev main_v787 : Ref sig .tc := ⟨.hbm, 870, rfl⟩
abbrev main_v788 : Ref sig .tc := ⟨.hbm, 871, rfl⟩
abbrev main_v789 : Ref sig .tc := ⟨.hbm, 872, rfl⟩
abbrev main_v790 : Ref sig .tc := ⟨.hbm, 873, rfl⟩
abbrev main_c_73 : Ref sig .tc := ⟨.hbm, 874, rfl⟩
abbrev main_v791 : Ref sig .tc := ⟨.hbm, 875, rfl⟩
abbrev main_v792 : Ref sig .tc := ⟨.hbm, 876, rfl⟩
abbrev main_v793 : Ref sig .tc := ⟨.hbm, 877, rfl⟩
abbrev main_v794 : Ref sig .tc := ⟨.hbm, 878, rfl⟩
abbrev main_v795 : Ref sig .tc := ⟨.hbm, 879, rfl⟩
abbrev main_v796 : Ref sig .tc := ⟨.hbm, 880, rfl⟩
abbrev main_v797 : Ref sig .tc := ⟨.hbm, 881, rfl⟩
abbrev main_v798 : Ref sig .tc := ⟨.hbm, 882, rfl⟩
abbrev main_v799 : Ref sig .tc := ⟨.hbm, 883, rfl⟩
abbrev main_v800 : Ref sig .tc := ⟨.hbm, 884, rfl⟩
abbrev main_v801 : Ref sig .tc := ⟨.hbm, 885, rfl⟩
abbrev main_c_74 : Ref sig .tc := ⟨.hbm, 886, rfl⟩
abbrev main_v802 : Ref sig .tc := ⟨.hbm, 887, rfl⟩
abbrev main_v803 : Ref sig .tc := ⟨.hbm, 888, rfl⟩
abbrev main_v804 : Ref sig .tc := ⟨.hbm, 889, rfl⟩
abbrev main_v805 : Ref sig .tc := ⟨.hbm, 890, rfl⟩
abbrev main_v806 : Ref sig .tc := ⟨.hbm, 891, rfl⟩
abbrev main_v807 : Ref sig .tc := ⟨.hbm, 892, rfl⟩
abbrev main_v808 : Ref sig .tc := ⟨.hbm, 893, rfl⟩
abbrev main_v809 : Ref sig .tc := ⟨.hbm, 894, rfl⟩
abbrev main_v810 : Ref sig .tc := ⟨.hbm, 895, rfl⟩
abbrev main_v811 : Ref sig .tc := ⟨.hbm, 896, rfl⟩
abbrev main_v812 : Ref sig .tc := ⟨.hbm, 897, rfl⟩
abbrev main_c_75 : Ref sig .tc := ⟨.hbm, 898, rfl⟩
abbrev main_v813 : Ref sig .tc := ⟨.hbm, 899, rfl⟩
abbrev main_v814 : Ref sig .tc := ⟨.hbm, 900, rfl⟩
abbrev main_v815 : Ref sig .tc := ⟨.hbm, 901, rfl⟩
abbrev main_v816 : Ref sig .tc := ⟨.hbm, 902, rfl⟩
abbrev main_v817 : Ref sig .tc := ⟨.hbm, 903, rfl⟩
abbrev main_v818 : Ref sig .tc := ⟨.hbm, 904, rfl⟩
abbrev main_v819 : Ref sig .tc := ⟨.hbm, 905, rfl⟩
abbrev main_v820 : Ref sig .tc := ⟨.hbm, 906, rfl⟩
abbrev main_v821 : Ref sig .tc := ⟨.hbm, 907, rfl⟩
abbrev main_v822 : Ref sig .tc := ⟨.hbm, 908, rfl⟩
abbrev main_v823 : Ref sig .tc := ⟨.hbm, 909, rfl⟩
abbrev main_c_76 : Ref sig .tc := ⟨.hbm, 910, rfl⟩
abbrev main_v824 : Ref sig .tc := ⟨.hbm, 911, rfl⟩
abbrev main_v825 : Ref sig .tc := ⟨.hbm, 912, rfl⟩
abbrev main_v826 : Ref sig .tc := ⟨.hbm, 913, rfl⟩
abbrev main_v827 : Ref sig .tc := ⟨.hbm, 914, rfl⟩
abbrev main_v828 : Ref sig .tc := ⟨.hbm, 915, rfl⟩
abbrev main_v829 : Ref sig .tc := ⟨.hbm, 916, rfl⟩
abbrev main_v830 : Ref sig .tc := ⟨.hbm, 917, rfl⟩
abbrev main_v831 : Ref sig .tc := ⟨.hbm, 918, rfl⟩
abbrev main_v832 : Ref sig .tc := ⟨.hbm, 919, rfl⟩
abbrev main_v833 : Ref sig .tc := ⟨.hbm, 920, rfl⟩
abbrev main_v834 : Ref sig .tc := ⟨.hbm, 921, rfl⟩
abbrev main_c_77 : Ref sig .tc := ⟨.hbm, 922, rfl⟩
abbrev main_v835 : Ref sig .tc := ⟨.hbm, 923, rfl⟩
abbrev main_v836 : Ref sig .tc := ⟨.hbm, 924, rfl⟩
abbrev main_v837 : Ref sig .tc := ⟨.hbm, 925, rfl⟩
abbrev main_v838 : Ref sig .tc := ⟨.hbm, 926, rfl⟩
abbrev main_v839 : Ref sig .tc := ⟨.hbm, 927, rfl⟩
abbrev main_v840 : Ref sig .tc := ⟨.hbm, 928, rfl⟩
abbrev main_v841 : Ref sig .tc := ⟨.hbm, 929, rfl⟩
abbrev main_v842 : Ref sig .tc := ⟨.hbm, 930, rfl⟩
abbrev main_v843 : Ref sig .tc := ⟨.hbm, 931, rfl⟩
abbrev main_v844 : Ref sig .tc := ⟨.hbm, 932, rfl⟩
abbrev main_v845 : Ref sig .tc := ⟨.hbm, 933, rfl⟩
abbrev main_c_78 : Ref sig .tc := ⟨.hbm, 934, rfl⟩
abbrev main_v846 : Ref sig .tc := ⟨.hbm, 935, rfl⟩
abbrev main_v847 : Ref sig .tc := ⟨.hbm, 936, rfl⟩
abbrev main_v848 : Ref sig .tc := ⟨.hbm, 937, rfl⟩
abbrev main_v849 : Ref sig .tc := ⟨.hbm, 938, rfl⟩
abbrev main_v850 : Ref sig .tc := ⟨.hbm, 939, rfl⟩
abbrev main_v851 : Ref sig .tc := ⟨.hbm, 940, rfl⟩
abbrev main_v852 : Ref sig .tc := ⟨.hbm, 941, rfl⟩
abbrev main_v853 : Ref sig .tc := ⟨.hbm, 942, rfl⟩
abbrev main_v854 : Ref sig .tc := ⟨.hbm, 943, rfl⟩
abbrev main_v855 : Ref sig .tc := ⟨.hbm, 944, rfl⟩
abbrev main_v856 : Ref sig .tc := ⟨.hbm, 945, rfl⟩
abbrev main_c_79 : Ref sig .tc := ⟨.hbm, 946, rfl⟩
abbrev main_v857 : Ref sig .tc := ⟨.hbm, 947, rfl⟩
abbrev main_v858 : Ref sig .tc := ⟨.hbm, 948, rfl⟩
abbrev main_v859 : Ref sig .tc := ⟨.hbm, 949, rfl⟩
abbrev main_v860 : Ref sig .tc := ⟨.hbm, 950, rfl⟩
abbrev main_v861 : Ref sig .tc := ⟨.hbm, 951, rfl⟩
abbrev main_v862 : Ref sig .tc := ⟨.hbm, 952, rfl⟩
abbrev main_v863 : Ref sig .tc := ⟨.hbm, 953, rfl⟩
abbrev main_v864 : Ref sig .tc := ⟨.hbm, 954, rfl⟩
abbrev main_v865 : Ref sig .tc := ⟨.hbm, 955, rfl⟩
abbrev main_v866 : Ref sig .tc := ⟨.hbm, 956, rfl⟩
abbrev main_v867 : Ref sig .tc := ⟨.hbm, 957, rfl⟩
abbrev main_c_80 : Ref sig .tc := ⟨.hbm, 958, rfl⟩
abbrev main_v868 : Ref sig .tc := ⟨.hbm, 959, rfl⟩
abbrev main_v869 : Ref sig .tc := ⟨.hbm, 960, rfl⟩
abbrev main_v870 : Ref sig .tc := ⟨.hbm, 961, rfl⟩
abbrev main_v871 : Ref sig .tc := ⟨.hbm, 962, rfl⟩
abbrev main_v872 : Ref sig .tc := ⟨.hbm, 963, rfl⟩
abbrev main_v873 : Ref sig .tc := ⟨.hbm, 964, rfl⟩
abbrev main_v874 : Ref sig .tc := ⟨.hbm, 965, rfl⟩
abbrev main_v875 : Ref sig .tc := ⟨.hbm, 966, rfl⟩
abbrev main_v876 : Ref sig .tc := ⟨.hbm, 967, rfl⟩
abbrev main_v877 : Ref sig .tc := ⟨.hbm, 968, rfl⟩
abbrev main_v878 : Ref sig .tc := ⟨.hbm, 969, rfl⟩
abbrev main_c_81 : Ref sig .tc := ⟨.hbm, 970, rfl⟩
abbrev main_v879 : Ref sig .tc := ⟨.hbm, 971, rfl⟩
abbrev main_v880 : Ref sig .tc := ⟨.hbm, 972, rfl⟩
abbrev main_v881 : Ref sig .tc := ⟨.hbm, 973, rfl⟩
abbrev main_v882 : Ref sig .tc := ⟨.hbm, 974, rfl⟩
abbrev main_v883 : Ref sig .tc := ⟨.hbm, 975, rfl⟩
abbrev main_v884 : Ref sig .tc := ⟨.hbm, 976, rfl⟩
abbrev main_v885 : Ref sig .tc := ⟨.hbm, 977, rfl⟩
abbrev main_v886 : Ref sig .tc := ⟨.hbm, 978, rfl⟩
abbrev main_v887 : Ref sig .tc := ⟨.hbm, 979, rfl⟩
abbrev main_v888 : Ref sig .tc := ⟨.hbm, 980, rfl⟩
abbrev main_v889 : Ref sig .tc := ⟨.hbm, 981, rfl⟩
abbrev main_c_82 : Ref sig .tc := ⟨.hbm, 982, rfl⟩
abbrev main_v890 : Ref sig .tc := ⟨.hbm, 983, rfl⟩
abbrev main_v891 : Ref sig .tc := ⟨.hbm, 984, rfl⟩
abbrev main_v892 : Ref sig .tc := ⟨.hbm, 985, rfl⟩
abbrev main_v893 : Ref sig .tc := ⟨.hbm, 986, rfl⟩
abbrev main_v894 : Ref sig .tc := ⟨.hbm, 987, rfl⟩
abbrev main_v895 : Ref sig .tc := ⟨.hbm, 988, rfl⟩
abbrev main_v896 : Ref sig .tc := ⟨.hbm, 989, rfl⟩
abbrev main_v897 : Ref sig .tc := ⟨.hbm, 990, rfl⟩
abbrev main_v898 : Ref sig .tc := ⟨.hbm, 991, rfl⟩
abbrev main_v899 : Ref sig .tc := ⟨.hbm, 992, rfl⟩
abbrev main_v900 : Ref sig .tc := ⟨.hbm, 993, rfl⟩
abbrev main_c_83 : Ref sig .tc := ⟨.hbm, 994, rfl⟩
abbrev main_v901 : Ref sig .tc := ⟨.hbm, 995, rfl⟩
abbrev main_v902 : Ref sig .tc := ⟨.hbm, 996, rfl⟩
abbrev main_v903 : Ref sig .tc := ⟨.hbm, 997, rfl⟩
abbrev main_v904 : Ref sig .tc := ⟨.hbm, 998, rfl⟩
abbrev main_v905 : Ref sig .tc := ⟨.hbm, 999, rfl⟩
abbrev main_v906 : Ref sig .tc := ⟨.hbm, 1000, rfl⟩
abbrev main_v907 : Ref sig .tc := ⟨.hbm, 1001, rfl⟩
abbrev main_v908 : Ref sig .tc := ⟨.hbm, 1002, rfl⟩
abbrev main_v909 : Ref sig .tc := ⟨.hbm, 1003, rfl⟩
abbrev main_v910 : Ref sig .tc := ⟨.hbm, 1004, rfl⟩
abbrev main_v911 : Ref sig .tc := ⟨.hbm, 1005, rfl⟩
abbrev main_c_84 : Ref sig .tc := ⟨.hbm, 1006, rfl⟩
abbrev main_v912 : Ref sig .tc := ⟨.hbm, 1007, rfl⟩
abbrev main_v913 : Ref sig .tc := ⟨.hbm, 1008, rfl⟩
abbrev main_v914 : Ref sig .tc := ⟨.hbm, 1009, rfl⟩
abbrev main_v915 : Ref sig .tc := ⟨.hbm, 1010, rfl⟩
abbrev main_v916 : Ref sig .tc := ⟨.hbm, 1011, rfl⟩
abbrev main_v917 : Ref sig .tc := ⟨.hbm, 1012, rfl⟩
abbrev main_v918 : Ref sig .tc := ⟨.hbm, 1013, rfl⟩
abbrev main_v919 : Ref sig .tc := ⟨.hbm, 1014, rfl⟩
abbrev main_v920 : Ref sig .tc := ⟨.hbm, 1015, rfl⟩
abbrev main_v921 : Ref sig .tc := ⟨.hbm, 1016, rfl⟩
abbrev main_v922 : Ref sig .tc := ⟨.hbm, 1017, rfl⟩
abbrev main_c_85 : Ref sig .tc := ⟨.hbm, 1018, rfl⟩
abbrev main_v923 : Ref sig .tc := ⟨.hbm, 1019, rfl⟩
abbrev main_v924 : Ref sig .tc := ⟨.hbm, 1020, rfl⟩
abbrev main_v925 : Ref sig .tc := ⟨.hbm, 1021, rfl⟩
abbrev main_v926 : Ref sig .tc := ⟨.hbm, 1022, rfl⟩
abbrev main_v927 : Ref sig .tc := ⟨.hbm, 1023, rfl⟩
abbrev main_v928 : Ref sig .tc := ⟨.hbm, 1024, rfl⟩
abbrev main_v929 : Ref sig .tc := ⟨.hbm, 1025, rfl⟩
abbrev main_v930 : Ref sig .tc := ⟨.hbm, 1026, rfl⟩
abbrev main_v931 : Ref sig .tc := ⟨.hbm, 1027, rfl⟩
abbrev main_v932 : Ref sig .tc := ⟨.hbm, 1028, rfl⟩
abbrev main_v933 : Ref sig .tc := ⟨.hbm, 1029, rfl⟩
abbrev main_c_86 : Ref sig .tc := ⟨.hbm, 1030, rfl⟩
abbrev main_v934 : Ref sig .tc := ⟨.hbm, 1031, rfl⟩
abbrev main_v935 : Ref sig .tc := ⟨.hbm, 1032, rfl⟩
abbrev main_v936 : Ref sig .tc := ⟨.hbm, 1033, rfl⟩
abbrev main_v937 : Ref sig .tc := ⟨.hbm, 1034, rfl⟩
abbrev main_v938 : Ref sig .tc := ⟨.hbm, 1035, rfl⟩
abbrev main_v939 : Ref sig .tc := ⟨.hbm, 1036, rfl⟩
abbrev main_v940 : Ref sig .tc := ⟨.hbm, 1037, rfl⟩
abbrev main_v941 : Ref sig .tc := ⟨.hbm, 1038, rfl⟩
abbrev main_v942 : Ref sig .tc := ⟨.hbm, 1039, rfl⟩
abbrev main_v943 : Ref sig .tc := ⟨.hbm, 1040, rfl⟩
abbrev main_v944 : Ref sig .tc := ⟨.hbm, 1041, rfl⟩
abbrev main_c_87 : Ref sig .tc := ⟨.hbm, 1042, rfl⟩
abbrev main_v945 : Ref sig .tc := ⟨.hbm, 1043, rfl⟩
abbrev main_v946 : Ref sig .tc := ⟨.hbm, 1044, rfl⟩
abbrev main_v947 : Ref sig .tc := ⟨.hbm, 1045, rfl⟩
abbrev main_v948 : Ref sig .tc := ⟨.hbm, 1046, rfl⟩
abbrev main_v949 : Ref sig .tc := ⟨.hbm, 1047, rfl⟩
abbrev main_v950 : Ref sig .tc := ⟨.hbm, 1048, rfl⟩
abbrev main_v951 : Ref sig .tc := ⟨.hbm, 1049, rfl⟩
abbrev main_v952 : Ref sig .tc := ⟨.hbm, 1050, rfl⟩
abbrev main_v953 : Ref sig .tc := ⟨.hbm, 1051, rfl⟩
abbrev main_v954 : Ref sig .tc := ⟨.hbm, 1052, rfl⟩
abbrev main_v955 : Ref sig .tc := ⟨.hbm, 1053, rfl⟩
abbrev main_c_88 : Ref sig .tc := ⟨.hbm, 1054, rfl⟩
abbrev main_v956 : Ref sig .tc := ⟨.hbm, 1055, rfl⟩
abbrev main_v957 : Ref sig .tc := ⟨.hbm, 1056, rfl⟩
abbrev main_v958 : Ref sig .tc := ⟨.hbm, 1057, rfl⟩
abbrev main_v959 : Ref sig .tc := ⟨.hbm, 1058, rfl⟩
abbrev main_v960 : Ref sig .tc := ⟨.hbm, 1059, rfl⟩
abbrev main_v961 : Ref sig .tc := ⟨.hbm, 1060, rfl⟩
abbrev main_v962 : Ref sig .tc := ⟨.hbm, 1061, rfl⟩
abbrev main_v963 : Ref sig .tc := ⟨.hbm, 1062, rfl⟩
abbrev main_c_89 : Ref sig .tc := ⟨.hbm, 1063, rfl⟩
abbrev main_call1_v0 : Ref sig .tc := ⟨.hbm, 1064, rfl⟩
abbrev main_v964 : Ref sig .tc := ⟨.hbm, 1065, rfl⟩
abbrev main_c_90 : Ref sig .tc := ⟨.hbm, 1066, rfl⟩
abbrev main_call2_v0 : Ref sig .tc := ⟨.hbm, 1067, rfl⟩
abbrev main_v965 : Ref sig .tc := ⟨.hbm, 1068, rfl⟩
abbrev main_c_91 : Ref sig .tc := ⟨.hbm, 1069, rfl⟩
abbrev main_call3_v0 : Ref sig .tc := ⟨.hbm, 1070, rfl⟩
abbrev main_v966 : Ref sig .tc := ⟨.hbm, 1071, rfl⟩
abbrev main_cst_92 : Ref sig .tc := ⟨.hbm, 1072, rfl⟩
abbrev main_v967 : Ref sig .tc := ⟨.hbm, 1073, rfl⟩
abbrev main_v968 : Ref sig .tc := ⟨.hbm, 1074, rfl⟩
abbrev main_v969 : Ref sig .tc := ⟨.hbm, 1075, rfl⟩
abbrev main_v970 : Ref sig .tc := ⟨.hbm, 1076, rfl⟩
abbrev main_v971 : Ref sig .tc := ⟨.hbm, 1077, rfl⟩
abbrev main_c_93 : Ref sig .tc := ⟨.hbm, 1078, rfl⟩
abbrev main_v972 : Ref sig .tc := ⟨.hbm, 1079, rfl⟩
abbrev main_v973 : Ref sig .tc := ⟨.hbm, 1080, rfl⟩
abbrev main_v974 : Ref sig .tc := ⟨.hbm, 1081, rfl⟩
abbrev main_v975 : Ref sig .tc := ⟨.hbm, 1082, rfl⟩
abbrev main_v976 : Ref sig .tc := ⟨.hbm, 1083, rfl⟩
abbrev main_v977 : Ref sig .tc := ⟨.hbm, 1084, rfl⟩
abbrev main_v978 : Ref sig .tc := ⟨.hbm, 1085, rfl⟩
abbrev main_v979 : Ref sig .tc := ⟨.hbm, 1086, rfl⟩
abbrev main_v980 : Ref sig .tc := ⟨.hbm, 1087, rfl⟩
abbrev main_v981 : Ref sig .tc := ⟨.hbm, 1088, rfl⟩
abbrev main_v982 : Ref sig .tc := ⟨.hbm, 1089, rfl⟩
abbrev main_c_94 : Ref sig .tc := ⟨.hbm, 1090, rfl⟩
abbrev main_v983 : Ref sig .tc := ⟨.hbm, 1091, rfl⟩
abbrev main_v984 : Ref sig .tc := ⟨.hbm, 1092, rfl⟩
abbrev main_v985 : Ref sig .tc := ⟨.hbm, 1093, rfl⟩
abbrev main_v986 : Ref sig .tc := ⟨.hbm, 1094, rfl⟩
abbrev main_v987 : Ref sig .tc := ⟨.hbm, 1095, rfl⟩
abbrev main_v988 : Ref sig .tc := ⟨.hbm, 1096, rfl⟩
abbrev main_v989 : Ref sig .tc := ⟨.hbm, 1097, rfl⟩
abbrev main_v990 : Ref sig .tc := ⟨.hbm, 1098, rfl⟩
abbrev main_v991 : Ref sig .tc := ⟨.hbm, 1099, rfl⟩
abbrev main_v992 : Ref sig .tc := ⟨.hbm, 1100, rfl⟩
abbrev main_v993 : Ref sig .tc := ⟨.hbm, 1101, rfl⟩
abbrev main_c_95 : Ref sig .tc := ⟨.hbm, 1102, rfl⟩
abbrev main_v994 : Ref sig .tc := ⟨.hbm, 1103, rfl⟩
abbrev main_v995 : Ref sig .tc := ⟨.hbm, 1104, rfl⟩
abbrev main_v996 : Ref sig .tc := ⟨.hbm, 1105, rfl⟩
abbrev main_v997 : Ref sig .tc := ⟨.hbm, 1106, rfl⟩
abbrev main_v998 : Ref sig .tc := ⟨.hbm, 1107, rfl⟩
abbrev main_v999 : Ref sig .tc := ⟨.hbm, 1108, rfl⟩
abbrev main_v1000 : Ref sig .tc := ⟨.hbm, 1109, rfl⟩
abbrev main_v1001 : Ref sig .tc := ⟨.hbm, 1110, rfl⟩
abbrev main_v1002 : Ref sig .tc := ⟨.hbm, 1111, rfl⟩
abbrev main_v1003 : Ref sig .tc := ⟨.hbm, 1112, rfl⟩
abbrev main_v1004 : Ref sig .tc := ⟨.hbm, 1113, rfl⟩
abbrev main_c_96 : Ref sig .tc := ⟨.hbm, 1114, rfl⟩
abbrev main_v1005 : Ref sig .tc := ⟨.hbm, 1115, rfl⟩
abbrev main_v1006 : Ref sig .tc := ⟨.hbm, 1116, rfl⟩
abbrev main_v1007 : Ref sig .tc := ⟨.hbm, 1117, rfl⟩
abbrev main_v1008 : Ref sig .tc := ⟨.hbm, 1118, rfl⟩
abbrev main_v1009 : Ref sig .tc := ⟨.hbm, 1119, rfl⟩
abbrev main_v1010 : Ref sig .tc := ⟨.hbm, 1120, rfl⟩
abbrev main_v1011 : Ref sig .tc := ⟨.hbm, 1121, rfl⟩
abbrev main_v1012 : Ref sig .tc := ⟨.hbm, 1122, rfl⟩
abbrev main_v1013 : Ref sig .tc := ⟨.hbm, 1123, rfl⟩
abbrev main_v1014 : Ref sig .tc := ⟨.hbm, 1124, rfl⟩
abbrev main_v1015 : Ref sig .tc := ⟨.hbm, 1125, rfl⟩
abbrev main_c_97 : Ref sig .tc := ⟨.hbm, 1126, rfl⟩
abbrev main_v1016 : Ref sig .tc := ⟨.hbm, 1127, rfl⟩
abbrev main_v1017 : Ref sig .tc := ⟨.hbm, 1128, rfl⟩
abbrev main_v1018 : Ref sig .tc := ⟨.hbm, 1129, rfl⟩
abbrev main_v1019 : Ref sig .tc := ⟨.hbm, 1130, rfl⟩
abbrev main_v1020 : Ref sig .tc := ⟨.hbm, 1131, rfl⟩
abbrev main_v1021 : Ref sig .tc := ⟨.hbm, 1132, rfl⟩
abbrev main_v1022 : Ref sig .tc := ⟨.hbm, 1133, rfl⟩
abbrev main_v1023 : Ref sig .tc := ⟨.hbm, 1134, rfl⟩
abbrev main_v1024 : Ref sig .tc := ⟨.hbm, 1135, rfl⟩
abbrev main_v1025 : Ref sig .tc := ⟨.hbm, 1136, rfl⟩
abbrev main_v1026 : Ref sig .tc := ⟨.hbm, 1137, rfl⟩
abbrev main_c_98 : Ref sig .tc := ⟨.hbm, 1138, rfl⟩
abbrev main_v1027 : Ref sig .tc := ⟨.hbm, 1139, rfl⟩
abbrev main_v1028 : Ref sig .tc := ⟨.hbm, 1140, rfl⟩
abbrev main_v1029 : Ref sig .tc := ⟨.hbm, 1141, rfl⟩
abbrev main_v1030 : Ref sig .tc := ⟨.hbm, 1142, rfl⟩
abbrev main_v1031 : Ref sig .tc := ⟨.hbm, 1143, rfl⟩
abbrev main_v1032 : Ref sig .tc := ⟨.hbm, 1144, rfl⟩
abbrev main_v1033 : Ref sig .tc := ⟨.hbm, 1145, rfl⟩
abbrev main_v1034 : Ref sig .tc := ⟨.hbm, 1146, rfl⟩
abbrev main_v1035 : Ref sig .tc := ⟨.hbm, 1147, rfl⟩
abbrev main_v1036 : Ref sig .tc := ⟨.hbm, 1148, rfl⟩
abbrev main_v1037 : Ref sig .tc := ⟨.hbm, 1149, rfl⟩
abbrev main_c_99 : Ref sig .tc := ⟨.hbm, 1150, rfl⟩
abbrev main_v1038 : Ref sig .tc := ⟨.hbm, 1151, rfl⟩
abbrev main_v1039 : Ref sig .tc := ⟨.hbm, 1152, rfl⟩
abbrev main_v1040 : Ref sig .tc := ⟨.hbm, 1153, rfl⟩
abbrev main_v1041 : Ref sig .tc := ⟨.hbm, 1154, rfl⟩
abbrev main_v1042 : Ref sig .tc := ⟨.hbm, 1155, rfl⟩
abbrev main_v1043 : Ref sig .tc := ⟨.hbm, 1156, rfl⟩
abbrev main_v1044 : Ref sig .tc := ⟨.hbm, 1157, rfl⟩
abbrev main_v1045 : Ref sig .tc := ⟨.hbm, 1158, rfl⟩
abbrev main_v1046 : Ref sig .tc := ⟨.hbm, 1159, rfl⟩
abbrev main_v1047 : Ref sig .tc := ⟨.hbm, 1160, rfl⟩
abbrev main_v1048 : Ref sig .tc := ⟨.hbm, 1161, rfl⟩
abbrev main_c_100 : Ref sig .tc := ⟨.hbm, 1162, rfl⟩
abbrev main_v1049 : Ref sig .tc := ⟨.hbm, 1163, rfl⟩
abbrev main_v1050 : Ref sig .tc := ⟨.hbm, 1164, rfl⟩
abbrev main_v1051 : Ref sig .tc := ⟨.hbm, 1165, rfl⟩
abbrev main_v1052 : Ref sig .tc := ⟨.hbm, 1166, rfl⟩
abbrev main_v1053 : Ref sig .tc := ⟨.hbm, 1167, rfl⟩
abbrev main_v1054 : Ref sig .tc := ⟨.hbm, 1168, rfl⟩
abbrev main_v1055 : Ref sig .tc := ⟨.hbm, 1169, rfl⟩
abbrev main_v1056 : Ref sig .tc := ⟨.hbm, 1170, rfl⟩
abbrev main_v1057 : Ref sig .tc := ⟨.hbm, 1171, rfl⟩
abbrev main_v1058 : Ref sig .tc := ⟨.hbm, 1172, rfl⟩
abbrev main_v1059 : Ref sig .tc := ⟨.hbm, 1173, rfl⟩
abbrev main_c_101 : Ref sig .tc := ⟨.hbm, 1174, rfl⟩
abbrev main_v1060 : Ref sig .tc := ⟨.hbm, 1175, rfl⟩
abbrev main_v1061 : Ref sig .tc := ⟨.hbm, 1176, rfl⟩
abbrev main_v1062 : Ref sig .tc := ⟨.hbm, 1177, rfl⟩
abbrev main_v1063 : Ref sig .tc := ⟨.hbm, 1178, rfl⟩
abbrev main_v1064 : Ref sig .tc := ⟨.hbm, 1179, rfl⟩
abbrev main_v1065 : Ref sig .tc := ⟨.hbm, 1180, rfl⟩
abbrev main_v1066 : Ref sig .tc := ⟨.hbm, 1181, rfl⟩
abbrev main_v1067 : Ref sig .tc := ⟨.hbm, 1182, rfl⟩
abbrev main_v1068 : Ref sig .tc := ⟨.hbm, 1183, rfl⟩
abbrev main_v1069 : Ref sig .tc := ⟨.hbm, 1184, rfl⟩
abbrev main_v1070 : Ref sig .tc := ⟨.hbm, 1185, rfl⟩
abbrev main_c_102 : Ref sig .tc := ⟨.hbm, 1186, rfl⟩
abbrev main_v1071 : Ref sig .tc := ⟨.hbm, 1187, rfl⟩
abbrev main_v1072 : Ref sig .tc := ⟨.hbm, 1188, rfl⟩
abbrev main_v1073 : Ref sig .tc := ⟨.hbm, 1189, rfl⟩
abbrev main_v1074 : Ref sig .tc := ⟨.hbm, 1190, rfl⟩
abbrev main_v1075 : Ref sig .tc := ⟨.hbm, 1191, rfl⟩
abbrev main_v1076 : Ref sig .tc := ⟨.hbm, 1192, rfl⟩
abbrev main_v1077 : Ref sig .tc := ⟨.hbm, 1193, rfl⟩
abbrev main_v1078 : Ref sig .tc := ⟨.hbm, 1194, rfl⟩
abbrev main_v1079 : Ref sig .tc := ⟨.hbm, 1195, rfl⟩
abbrev main_v1080 : Ref sig .tc := ⟨.hbm, 1196, rfl⟩
abbrev main_v1081 : Ref sig .tc := ⟨.hbm, 1197, rfl⟩
abbrev main_c_103 : Ref sig .tc := ⟨.hbm, 1198, rfl⟩
abbrev main_v1082 : Ref sig .tc := ⟨.hbm, 1199, rfl⟩
abbrev main_v1083 : Ref sig .tc := ⟨.hbm, 1200, rfl⟩
abbrev main_v1084 : Ref sig .tc := ⟨.hbm, 1201, rfl⟩
abbrev main_v1085 : Ref sig .tc := ⟨.hbm, 1202, rfl⟩
abbrev main_v1086 : Ref sig .tc := ⟨.hbm, 1203, rfl⟩
abbrev main_v1087 : Ref sig .tc := ⟨.hbm, 1204, rfl⟩
abbrev main_v1088 : Ref sig .tc := ⟨.hbm, 1205, rfl⟩
abbrev main_v1089 : Ref sig .tc := ⟨.hbm, 1206, rfl⟩
abbrev main_v1090 : Ref sig .tc := ⟨.hbm, 1207, rfl⟩
abbrev main_v1091 : Ref sig .tc := ⟨.hbm, 1208, rfl⟩
abbrev main_v1092 : Ref sig .tc := ⟨.hbm, 1209, rfl⟩
abbrev main_c_104 : Ref sig .tc := ⟨.hbm, 1210, rfl⟩
abbrev main_v1093 : Ref sig .tc := ⟨.hbm, 1211, rfl⟩
abbrev main_v1094 : Ref sig .tc := ⟨.hbm, 1212, rfl⟩
abbrev main_v1095 : Ref sig .tc := ⟨.hbm, 1213, rfl⟩
abbrev main_v1096 : Ref sig .tc := ⟨.hbm, 1214, rfl⟩
abbrev main_v1097 : Ref sig .tc := ⟨.hbm, 1215, rfl⟩
abbrev main_v1098 : Ref sig .tc := ⟨.hbm, 1216, rfl⟩
abbrev main_v1099 : Ref sig .tc := ⟨.hbm, 1217, rfl⟩
abbrev main_v1100 : Ref sig .tc := ⟨.hbm, 1218, rfl⟩
abbrev main_v1101 : Ref sig .tc := ⟨.hbm, 1219, rfl⟩
abbrev main_v1102 : Ref sig .tc := ⟨.hbm, 1220, rfl⟩
abbrev main_v1103 : Ref sig .tc := ⟨.hbm, 1221, rfl⟩
abbrev main_c_105 : Ref sig .tc := ⟨.hbm, 1222, rfl⟩
abbrev main_v1104 : Ref sig .tc := ⟨.hbm, 1223, rfl⟩
abbrev main_v1105 : Ref sig .tc := ⟨.hbm, 1224, rfl⟩
abbrev main_v1106 : Ref sig .tc := ⟨.hbm, 1225, rfl⟩
abbrev main_v1107 : Ref sig .tc := ⟨.hbm, 1226, rfl⟩
abbrev main_v1108 : Ref sig .tc := ⟨.hbm, 1227, rfl⟩
abbrev main_v1109 : Ref sig .tc := ⟨.hbm, 1228, rfl⟩
abbrev main_v1110 : Ref sig .tc := ⟨.hbm, 1229, rfl⟩
abbrev main_v1111 : Ref sig .tc := ⟨.hbm, 1230, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c128_i32_0 : BitVec 32 := 128#32
  let v1 : BitVec 32 := Scalar.muli arg2 c128_i32_0
  let c0_i32 : BitVec 32 := 0#32
  let c0_i32_1 : BitVec 32 := 0#32
  ![arg0.toNat, c0_i32.toNat, v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x3x144x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S128x140 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S140x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev grid1 : Pipeline.Grid := ⟨3, ![2, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c128_i32_0 : BitVec 32 := 128#32
  let v1 : BitVec 32 := Scalar.muli arg2 c128_i32_0
  let c0_i32 : BitVec 32 := 0#32
  ![arg0.toNat, v0.toNat, v1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c128_i32_0 : BitVec 32 := 128#32
  let v1 : BitVec 32 := Scalar.muli arg2 c128_i32_0
  let c0_i32 : BitVec 32 := 0#32
  ![arg0.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c128_i32_0 : BitVec 32 := 128#32
  let v1 : BitVec 32 := Scalar.muli arg2 c128_i32_0
  let c0_i32 : BitVec 32 := 0#32
  ![arg0.toNat, v0.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage1_0 : Fin 2 → Memref sig .tc .vmem S1x192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x192x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x192x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 1 → Memref sig .tc .vmem S128x188 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S188x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x3x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== ReferenceIdeal.lean ====
abbrev S2x3x512x512 : Shape := ⟨4, ![2, 3, 512, 512]⟩
abbrev S13 : Shape := ⟨1, ![13]⟩
abbrev S61 : Shape := ⟨1, ![61]⟩
abbrev S3x3 : Shape := ⟨2, ![3, 3]⟩
abbrev S2x512x512x3 : Shape := ⟨4, ![2, 512, 512, 3]⟩
abbrev S2x1x512x512 : Shape := ⟨4, ![2, 1, 512, 512]⟩
abbrev S2x512x512 : Shape := ⟨3, ![2, 512, 512]⟩
abbrev S_ : Shape := ⟨0, ![]⟩
abbrev S2x512x512x1 : Shape := ⟨4, ![2, 512, 512, 1]⟩
abbrev S2x2x512x512 : Shape := ⟨4, ![2, 2, 512, 512]⟩
abbrev S2x512x512x2 : Shape := ⟨4, ![2, 512, 512, 2]⟩
abbrev S1x1x1x32 : Shape := ⟨4, ![1, 1, 1, 32]⟩
abbrev S2x512x512x32 : Shape := ⟨4, ![2, 512, 512, 32]⟩
abbrev S2x512x512x32x1 : Shape := ⟨5, ![2, 512, 512, 32, 1]⟩
abbrev S2x512x512x1x2 : Shape := ⟨5, ![2, 512, 512, 1, 2]⟩
abbrev S2x512x512x32x2 : Shape := ⟨5, ![2, 512, 512, 32, 2]⟩
abbrev S2x524x512x32x2 : Shape := ⟨5, ![2, 524, 512, 32, 2]⟩
abbrev S13x1 : Shape := ⟨2, ![13, 1]⟩
abbrev S13x5 : Shape := ⟨2, ![13, 5]⟩
abbrev S13x2x512x512x32x2 : Shape := ⟨6, ![13, 2, 512, 512, 32, 2]⟩
abbrev S2x512x524x32x2 : Shape := ⟨5, ![2, 512, 524, 32, 2]⟩
abbrev S2x512x512x44x2 : Shape := ⟨5, ![2, 512, 512, 44, 2]⟩
abbrev S2x512x512x1x3 : Shape := ⟨5, ![2, 512, 512, 1, 3]⟩
abbrev S2x512x512x32x3 : Shape := ⟨5, ![2, 512, 512, 32, 3]⟩
abbrev S2x572x512x32x3 : Shape := ⟨5, ![2, 572, 512, 32, 3]⟩
abbrev S61x1 : Shape := ⟨2, ![61, 1]⟩
abbrev S61x5 : Shape := ⟨2, ![61, 5]⟩
abbrev S61x2x512x512x32x3 : Shape := ⟨6, ![61, 2, 512, 512, 32, 3]⟩
abbrev S2x512x572x32x3 : Shape := ⟨5, ![2, 512, 572, 32, 3]⟩
abbrev S2x512x512x44x3 : Shape := ⟨5, ![2, 512, 512, 44, 3]⟩
abbrev S13x2x512x512x32x3 : Shape := ⟨6, ![13, 2, 512, 512, 32, 3]⟩

abbrev nBuf : Space → Nat
  | .hbm => 331
  | .vmem => 0
  | .smem => 0
  | _ => 0

abbrev hbmTy0_0 (i : Nat) : BufTy := match i % 128 with
  | 0 => ⟨S2x3x512x512, .f32⟩
  | 1 => ⟨S13, .f32⟩
  | 2 => ⟨S13, .f32⟩
  | 3 => ⟨S61, .f32⟩
  | 4 => ⟨S13, .f32⟩
  | 5 => ⟨S3x3, .f32⟩
  | 6 => ⟨S3x3, .f32⟩
  | 7 => ⟨S2x512x512x3, .f32⟩
  | 8 => ⟨S2x3x512x512, .f32⟩
  | 9 => ⟨S2x1x512x512, .f32⟩
  | 10 => ⟨S2x512x512, .f32⟩
  | 11 => ⟨S_, .f32⟩
  | 12 => ⟨S_, .f32⟩
  | 13 => ⟨S_, .f32⟩
  | 14 => ⟨S2x512x512, .f32⟩
  | 15 => ⟨S2x512x512, .f32⟩
  | 16 => ⟨S_, .f32⟩
  | 17 => ⟨S2x512x512, .f32⟩
  | 18 => ⟨S2x512x512, .f32⟩
  | 19 => ⟨S_, .f32⟩
  | 20 => ⟨S_, .f32⟩
  | 21 => ⟨S_, .f32⟩
  | 22 => ⟨S2x512x512, .f32⟩
  | 23 => ⟨S2x512x512, .f32⟩
  | 24 => ⟨S_, .f32⟩
  | 25 => ⟨S2x512x512, .f32⟩
  | 26 => ⟨S2x512x512, .f32⟩
  | 27 => ⟨S_, .f32⟩
  | 28 => ⟨S2x512x512, .f32⟩
  | 29 => ⟨S2x512x512, .f32⟩
  | 30 => ⟨S2x512x512, .f32⟩
  | 31 => ⟨S2x512x512, .i32⟩
  | 32 => ⟨S_, .i32⟩
  | 33 => ⟨S_, .i32⟩
  | 34 => ⟨S_, .i32⟩
  | 35 => ⟨S2x512x512, .i32⟩
  | 36 => ⟨S2x512x512, .i32⟩
  | 37 => ⟨S_, .i32⟩
  | 38 => ⟨S2x512x512, .i32⟩
  | 39 => ⟨S2x512x512, .i32⟩
  | 40 => ⟨S2x512x512, .f32⟩
  | 41 => ⟨S2x512x512, .f32⟩
  | 42 => ⟨S2x512x512x1, .f32⟩
  | 43 => ⟨S_, .f32⟩
  | 44 => ⟨S2x1x512x512, .f32⟩
  | 45 => ⟨S2x2x512x512, .f32⟩
  | 46 => ⟨S2x512x512x2, .f32⟩
  | 47 => ⟨S2x512x512x1, .i32⟩
  | 48 => ⟨S1x1x1x32, .i32⟩
  | 49 => ⟨S2x512x512x32, .i32⟩
  | 50 => ⟨S2x512x512x32, .i32⟩
  | 51 => ⟨S2x512x512x32, .i1⟩
  | 52 => ⟨S2x512x512x32, .f32⟩
  | 53 => ⟨S2x512x512x32x1, .f32⟩
  | 54 => ⟨S_, .i32⟩
  | 55 => ⟨S2x512x512, .i32⟩
  | 56 => ⟨S2x512x512, .i32⟩
  | 57 => ⟨S2x512x512x1, .i32⟩
  | 58 => ⟨S1x1x1x32, .i32⟩
  | 59 => ⟨S2x512x512x32, .i32⟩
  | 60 => ⟨S2x512x512x32, .i32⟩
  | 61 => ⟨S2x512x512x32, .i1⟩
  | 62 => ⟨S2x512x512x32, .f32⟩
  | 63 => ⟨S2x512x512x32x1, .f32⟩
  | 64 => ⟨S_, .f32⟩
  | 65 => ⟨S2x512x512x1, .f32⟩
  | 66 => ⟨S2x512x512x1, .f32⟩
  | 67 => ⟨S2x512x512x2, .f32⟩
  | 68 => ⟨S2x512x512x2, .f32⟩
  | 69 => ⟨S2x512x512x1x2, .f32⟩
  | 70 => ⟨S2x512x512x32x2, .f32⟩
  | 71 => ⟨S2x512x512x32x2, .f32⟩
  | 72 => ⟨S2x512x512x32x2, .f32⟩
  | 73 => ⟨S2x512x512x2, .f32⟩
  | 74 => ⟨S2x512x512x2, .f32⟩
  | 75 => ⟨S2x512x512x1x2, .f32⟩
  | 76 => ⟨S2x512x512x32x2, .f32⟩
  | 77 => ⟨S2x512x512x32x2, .f32⟩
  | 78 => ⟨S2x512x512x32x2, .f32⟩
  | 79 => ⟨S2x512x512x32x2, .f32⟩
  | 80 => ⟨S_, .i32⟩
  | 81 => ⟨S_, .f32⟩
  | 82 => ⟨S2x524x512x32x2, .f32⟩
  | 83 => ⟨S13, .i32⟩
  | 84 => ⟨S_, .i32⟩
  | 85 => ⟨S13, .i32⟩
  | 86 => ⟨S13, .i1⟩
  | 87 => ⟨S_, .i32⟩
  | 88 => ⟨S13, .i32⟩
  | 89 => ⟨S13, .i32⟩
  | 90 => ⟨S13, .i32⟩
  | 91 => ⟨S_, .i32⟩
  | 92 => ⟨S13x1, .i32⟩
  | 93 => ⟨S13x1, .i32⟩
  | 94 => ⟨S_, .i32⟩
  | 95 => ⟨S13x1, .i32⟩
  | 96 => ⟨S_, .i32⟩
  | 97 => ⟨S13x1, .i32⟩
  | 98 => ⟨S_, .i32⟩
  | 99 => ⟨S13x1, .i32⟩
  | 100 => ⟨S13x5, .i32⟩
  | 101 => ⟨S13x2x512x512x32x2, .f32⟩
  | 102 => ⟨S2x512x512x32x2, .f32⟩
  | 103 => ⟨S_, .i32⟩
  | 104 => ⟨S_, .f32⟩
  | 105 => ⟨S2x512x524x32x2, .f32⟩
  | 106 => ⟨S13, .i32⟩
  | 107 => ⟨S_, .i32⟩
  | 108 => ⟨S13, .i32⟩
  | 109 => ⟨S13, .i1⟩
  | 110 => ⟨S_, .i32⟩
  | 111 => ⟨S13, .i32⟩
  | 112 => ⟨S13, .i32⟩
  | 113 => ⟨S13, .i32⟩
  | 114 => ⟨S_, .i32⟩
  | 115 => ⟨S13x1, .i32⟩
  | 116 => ⟨S_, .i32⟩
  | 117 => ⟨S13x1, .i32⟩
  | 118 => ⟨S13x1, .i32⟩
  | 119 => ⟨S_, .i32⟩
  | 120 => ⟨S13x1, .i32⟩
  | 121 => ⟨S_, .i32⟩
  | 122 => ⟨S13x1, .i32⟩
  | 123 => ⟨S13x5, .i32⟩
  | 124 => ⟨S13x2x512x512x32x2, .f32⟩
  | 125 => ⟨S2x512x512x32x2, .f32⟩
  | 126 => ⟨S_, .i32⟩
  | 127 => ⟨S_, .f32⟩
  | _ => ⟨S2x3x512x512, .f32⟩

abbrev hbmTy0_1 (i : Nat) : BufTy := match i % 128 with
  | 0 => ⟨S2x512x512x44x2, .f32⟩
  | 1 => ⟨S13, .i32⟩
  | 2 => ⟨S_, .i32⟩
  | 3 => ⟨S13, .i32⟩
  | 4 => ⟨S13, .i1⟩
  | 5 => ⟨S_, .i32⟩
  | 6 => ⟨S13, .i32⟩
  | 7 => ⟨S13, .i32⟩
  | 8 => ⟨S13, .i32⟩
  | 9 => ⟨S_, .i32⟩
  | 10 => ⟨S13x1, .i32⟩
  | 11 => ⟨S_, .i32⟩
  | 12 => ⟨S13x1, .i32⟩
  | 13 => ⟨S_, .i32⟩
  | 14 => ⟨S13x1, .i32⟩
  | 15 => ⟨S13x1, .i32⟩
  | 16 => ⟨S_, .i32⟩
  | 17 => ⟨S13x1, .i32⟩
  | 18 => ⟨S13x5, .i32⟩
  | 19 => ⟨S13x2x512x512x32x2, .f32⟩
  | 20 => ⟨S2x512x512x32x2, .f32⟩
  | 21 => ⟨S2x512x512x32x2, .f32⟩
  | 22 => ⟨S2x512x512x32x2, .f32⟩
  | 23 => ⟨S_, .f32⟩
  | 24 => ⟨S2x512x512x2, .f32⟩
  | 25 => ⟨S2x512x512x32x2, .f32⟩
  | 26 => ⟨S2x512x512x32x2, .f32⟩
  | 27 => ⟨S_, .f32⟩
  | 28 => ⟨S2x512x512x2, .f32⟩
  | 29 => ⟨S_, .f32⟩
  | 30 => ⟨S2x512x512x1, .f32⟩
  | 31 => ⟨S2x512x512x1, .f32⟩
  | 32 => ⟨S2x512x512x2, .f32⟩
  | 33 => ⟨S2x512x512x2, .f32⟩
  | 34 => ⟨S2x512x512x2, .f32⟩
  | 35 => ⟨S2x512x512x2, .f32⟩
  | 36 => ⟨S2x512x512x2, .f32⟩
  | 37 => ⟨S2x512x512x1, .f32⟩
  | 38 => ⟨S2x512x512x1, .f32⟩
  | 39 => ⟨S_, .f32⟩
  | 40 => ⟨S2x512x512x1, .f32⟩
  | 41 => ⟨S2x512x512x1, .f32⟩
  | 42 => ⟨S2x512x512x1, .f32⟩
  | 43 => ⟨S2x1x512x512, .f32⟩
  | 44 => ⟨S2x2x512x512, .f32⟩
  | 45 => ⟨S2x512x512, .f32⟩
  | 46 => ⟨S_, .f32⟩
  | 47 => ⟨S_, .f32⟩
  | 48 => ⟨S_, .f32⟩
  | 49 => ⟨S2x512x512, .f32⟩
  | 50 => ⟨S2x512x512, .f32⟩
  | 51 => ⟨S_, .f32⟩
  | 52 => ⟨S2x512x512, .f32⟩
  | 53 => ⟨S2x512x512, .f32⟩
  | 54 => ⟨S_, .f32⟩
  | 55 => ⟨S2x512x512, .f32⟩
  | 56 => ⟨S2x512x512, .f32⟩
  | 57 => ⟨S2x512x512, .f32⟩
  | 58 => ⟨S2x512x512, .i32⟩
  | 59 => ⟨S_, .i32⟩
  | 60 => ⟨S_, .i32⟩
  | 61 => ⟨S_, .i32⟩
  | 62 => ⟨S2x512x512, .i32⟩
  | 63 => ⟨S2x512x512, .i32⟩
  | 64 => ⟨S_, .i32⟩
  | 65 => ⟨S2x512x512, .i32⟩
  | 66 => ⟨S2x512x512, .i32⟩
  | 67 => ⟨S2x512x512, .f32⟩
  | 68 => ⟨S2x512x512, .f32⟩
  | 69 => ⟨S2x512x512x1, .f32⟩
  | 70 => ⟨S_, .f32⟩
  | 71 => ⟨S2x1x512x512, .f32⟩
  | 72 => ⟨S2x3x512x512, .f32⟩
  | 73 => ⟨S2x512x512x3, .f32⟩
  | 74 => ⟨S2x512x512x1, .i32⟩
  | 75 => ⟨S1x1x1x32, .i32⟩
  | 76 => ⟨S2x512x512x32, .i32⟩
  | 77 => ⟨S2x512x512x32, .i32⟩
  | 78 => ⟨S2x512x512x32, .i1⟩
  | 79 => ⟨S2x512x512x32, .f32⟩
  | 80 => ⟨S2x512x512x32x1, .f32⟩
  | 81 => ⟨S_, .i32⟩
  | 82 => ⟨S2x512x512, .i32⟩
  | 83 => ⟨S2x512x512, .i32⟩
  | 84 => ⟨S2x512x512x1, .i32⟩
  | 85 => ⟨S1x1x1x32, .i32⟩
  | 86 => ⟨S2x512x512x32, .i32⟩
  | 87 => ⟨S2x512x512x32, .i32⟩
  | 88 => ⟨S2x512x512x32, .i1⟩
  | 89 => ⟨S2x512x512x32, .f32⟩
  | 90 => ⟨S2x512x512x32x1, .f32⟩
  | 91 => ⟨S_, .f32⟩
  | 92 => ⟨S2x512x512x1, .f32⟩
  | 93 => ⟨S2x512x512x1, .f32⟩
  | 94 => ⟨S2x512x512x3, .f32⟩
  | 95 => ⟨S2x512x512x3, .f32⟩
  | 96 => ⟨S2x512x512x1x3, .f32⟩
  | 97 => ⟨S2x512x512x32x3, .f32⟩
  | 98 => ⟨S2x512x512x32x3, .f32⟩
  | 99 => ⟨S2x512x512x32x3, .f32⟩
  | 100 => ⟨S2x512x512x3, .f32⟩
  | 101 => ⟨S2x512x512x3, .f32⟩
  | 102 => ⟨S2x512x512x1x3, .f32⟩
  | 103 => ⟨S2x512x512x32x3, .f32⟩
  | 104 => ⟨S2x512x512x32x3, .f32⟩
  | 105 => ⟨S2x512x512x32x3, .f32⟩
  | 106 => ⟨S2x512x512x32x3, .f32⟩
  | 107 => ⟨S_, .i32⟩
  | 108 => ⟨S_, .f32⟩
  | 109 => ⟨S2x572x512x32x3, .f32⟩
  | 110 => ⟨S61, .i32⟩
  | 111 => ⟨S_, .i32⟩
  | 112 => ⟨S61, .i32⟩
  | 113 => ⟨S61, .i1⟩
  | 114 => ⟨S_, .i32⟩
  | 115 => ⟨S61, .i32⟩
  | 116 => ⟨S61, .i32⟩
  | 117 => ⟨S61, .i32⟩
  | 118 => ⟨S_, .i32⟩
  | 119 => ⟨S61x1, .i32⟩
  | 120 => ⟨S61x1, .i32⟩
  | 121 => ⟨S_, .i32⟩
  | 122 => ⟨S61x1, .i32⟩
  | 123 => ⟨S_, .i32⟩
  | 124 => ⟨S61x1, .i32⟩
  | 125 => ⟨S_, .i32⟩
  | 126 => ⟨S61x1, .i32⟩
  | 127 => ⟨S61x5, .i32⟩
  | _ => ⟨S2x3x512x512, .f32⟩

abbrev hbmTy0_2 (i : Nat) : BufTy := match i % 128 with
  | 0 => ⟨S61x2x512x512x32x3, .f32⟩
  | 1 => ⟨S2x512x512x32x3, .f32⟩
  | 2 => ⟨S_, .i32⟩
  | 3 => ⟨S_, .f32⟩
  | 4 => ⟨S2x512x572x32x3, .f32⟩
  | 5 => ⟨S61, .i32⟩
  | 6 => ⟨S_, .i32⟩
  | 7 => ⟨S61, .i32⟩
  | 8 => ⟨S61, .i1⟩
  | 9 => ⟨S_, .i32⟩
  | 10 => ⟨S61, .i32⟩
  | 11 => ⟨S61, .i32⟩
  | 12 => ⟨S61, .i32⟩
  | 13 => ⟨S_, .i32⟩
  | 14 => ⟨S61x1, .i32⟩
  | 15 => ⟨S_, .i32⟩
  | 16 => ⟨S61x1, .i32⟩
  | 17 => ⟨S61x1, .i32⟩
  | 18 => ⟨S_, .i32⟩
  | 19 => ⟨S61x1, .i32⟩
  | 20 => ⟨S_, .i32⟩
  | 21 => ⟨S61x1, .i32⟩
  | 22 => ⟨S61x5, .i32⟩
  | 23 => ⟨S61x2x512x512x32x3, .f32⟩
  | 24 => ⟨S2x512x512x32x3, .f32⟩
  | 25 => ⟨S_, .i32⟩
  | 26 => ⟨S_, .f32⟩
  | 27 => ⟨S2x512x512x44x3, .f32⟩
  | 28 => ⟨S13, .i32⟩
  | 29 => ⟨S_, .i32⟩
  | 30 => ⟨S13, .i32⟩
  | 31 => ⟨S13, .i1⟩
  | 32 => ⟨S_, .i32⟩
  | 33 => ⟨S13, .i32⟩
  | 34 => ⟨S13, .i32⟩
  | 35 => ⟨S13, .i32⟩
  | 36 => ⟨S_, .i32⟩
  | 37 => ⟨S13x1, .i32⟩
  | 38 => ⟨S_, .i32⟩
  | 39 => ⟨S13x1, .i32⟩
  | 40 => ⟨S_, .i32⟩
  | 41 => ⟨S13x1, .i32⟩
  | 42 => ⟨S13x1, .i32⟩
  | 43 => ⟨S_, .i32⟩
  | 44 => ⟨S13x1, .i32⟩
  | 45 => ⟨S13x5, .i32⟩
  | 46 => ⟨S13x2x512x512x32x3, .f32⟩
  | 47 => ⟨S2x512x512x32x3, .f32⟩
  | 48 => ⟨S2x512x512x32x3, .f32⟩
  | 49 => ⟨S2x512x512x32x3, .f32⟩
  | 50 => ⟨S_, .f32⟩
  | 51 => ⟨S2x512x512x3, .f32⟩
  | 52 => ⟨S2x512x512x32x3, .f32⟩
  | 53 => ⟨S2x512x512x32x3, .f32⟩
  | 54 => ⟨S_, .f32⟩
  | 55 => ⟨S2x512x512x3, .f32⟩
  | 56 => ⟨S_, .f32⟩
  | 57 => ⟨S2x512x512x1, .f32⟩
  | 58 => ⟨S2x512x512x1, .f32⟩
  | 59 => ⟨S2x512x512x3, .f32⟩
  | 60 => ⟨S2x512x512x3, .f32⟩
  | 61 => ⟨S2x512x512x3, .f32⟩
  | 62 => ⟨S2x512x512x3, .f32⟩
  | 63 => ⟨S2x512x512x3, .f32⟩
  | 64 => ⟨S2x512x512x2, .f32⟩
  | 65 => ⟨S2x512x512x1, .f32⟩
  | 66 => ⟨S_, .f32⟩
  | 67 => ⟨S2x512x512x1, .f32⟩
  | 68 => ⟨S2x512x512x1, .f32⟩
  | 69 => ⟨S2x512x512x2, .f32⟩
  | 70 => ⟨S2x512x512x2, .f32⟩
  | 71 => ⟨S2x2x512x512, .f32⟩
  | 72 => ⟨S2x3x512x512, .f32⟩
  | 73 => ⟨S2x512x512x3, .f32⟩
  | 74 => ⟨S2x3x512x512, .f32⟩
  | _ => ⟨S2x3x512x512, .f32⟩

abbrev hbmTy (i : Nat) : BufTy := match i / 128 with
  | 0 => hbmTy0_0 i
  | 1 => hbmTy0_1 i
  | 2 => hbmTy0_2 i
  | _ => ⟨S2x3x512x512, .f32⟩

abbrev bufTy : (tb : Table) → Fin (tcTables nBuf tb) → BufTy
  | .hbm, ⟨i, _⟩ => hbmTy i
  | _, _ => ⟨S2x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_cst_3 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v5 : Ref sig .tc := ⟨.hbm, 26, rfl⟩
abbrev main_cst_5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c : Ref sig .tc := ⟨.hbm, 32, rfl⟩
abbrev main_c_6 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_7 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v17 : Ref sig .tc := ⟨.hbm, 52, rfl⟩
abbrev main_v18 : Ref sig .tc := ⟨.hbm, 53, rfl⟩
abbrev main_c_8 : Ref sig .tc := ⟨.hbm, 54, rfl⟩
abbrev main_v19 : Ref sig .tc := ⟨.hbm, 55, rfl⟩
abbrev main_v20 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_v21 : Ref sig .tc := ⟨.hbm, 62, rfl⟩
abbrev main_v22 : Ref sig .tc := ⟨.hbm, 63, rfl⟩
abbrev main_cst_9 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_10 : Ref sig .tc := ⟨.hbm, 80, rfl⟩
abbrev main_call5_v0 : Ref sig .tc := ⟨.hbm, 81, rfl⟩
abbrev main_v38 : Ref sig .tc := ⟨.hbm, 82, rfl⟩
abbrev main_v39 : Ref sig .tc := ⟨.hbm, 83, rfl⟩
abbrev main_c_11 : Ref sig .tc := ⟨.hbm, 84, rfl⟩
abbrev main_v40 : Ref sig .tc := ⟨.hbm, 85, rfl⟩
abbrev main_v41 : Ref sig .tc := ⟨.hbm, 86, rfl⟩
abbrev main_c_12 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_c_13 : Ref sig .tc := ⟨.hbm, 91, rfl⟩
abbrev main_v45 : Ref sig .tc := ⟨.hbm, 92, rfl⟩
abbrev main_v46 : Ref sig .tc := ⟨.hbm, 93, rfl⟩
abbrev main_c_14 : Ref sig .tc := ⟨.hbm, 94, rfl⟩
abbrev main_v47 : Ref sig .tc := ⟨.hbm, 95, rfl⟩
abbrev main_c_15 : Ref sig .tc := ⟨.hbm, 96, rfl⟩
abbrev main_v48 : Ref sig .tc := ⟨.hbm, 97, rfl⟩
abbrev main_c_16 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_c_17 : Ref sig .tc := ⟨.hbm, 103, rfl⟩
abbrev main_call6_v0 : Ref sig .tc := ⟨.hbm, 104, rfl⟩
abbrev main_v53 : Ref sig .tc := ⟨.hbm, 105, rfl⟩
abbrev main_v54 : Ref sig .tc := ⟨.hbm, 106, rfl⟩
abbrev main_c_18 : Ref sig .tc := ⟨.hbm, 107, rfl⟩
abbrev main_v55 : Ref sig .tc := ⟨.hbm, 108, rfl⟩
abbrev main_v56 : Ref sig .tc := ⟨.hbm, 109, rfl⟩
abbrev main_c_19 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_c_20 : Ref sig .tc := ⟨.hbm, 114, rfl⟩
abbrev main_v60 : Ref sig .tc := ⟨.hbm, 115, rfl⟩
abbrev main_c_21 : Ref sig .tc := ⟨.hbm, 116, rfl⟩
abbrev main_v61 : Ref sig .tc := ⟨.hbm, 117, rfl⟩
abbrev main_v62 : Ref sig .tc := ⟨.hbm, 118, rfl⟩
abbrev main_c_22 : Ref sig .tc := ⟨.hbm, 119, rfl⟩
abbrev main_v63 : Ref sig .tc := ⟨.hbm, 120, rfl⟩
abbrev main_c_23 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_c_24 : Ref sig .tc := ⟨.hbm, 126, rfl⟩
abbrev main_call7_v0 : Ref sig .tc := ⟨.hbm, 127, rfl⟩
abbrev main_v68 : Ref sig .tc := ⟨.hbm, 128, rfl⟩
abbrev main_v69 : Ref sig .tc := ⟨.hbm, 129, rfl⟩
abbrev main_c_25 : Ref sig .tc := ⟨.hbm, 130, rfl⟩
abbrev main_v70 : Ref sig .tc := ⟨.hbm, 131, rfl⟩
abbrev main_v71 : Ref sig .tc := ⟨.hbm, 132, rfl⟩
abbrev main_c_26 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_c_27 : Ref sig .tc := ⟨.hbm, 137, rfl⟩
abbrev main_v75 : Ref sig .tc := ⟨.hbm, 138, rfl⟩
abbrev main_c_28 : Ref sig .tc := ⟨.hbm, 139, rfl⟩
abbrev main_v76 : Ref sig .tc := ⟨.hbm, 140, rfl⟩
abbrev main_c_29 : Ref sig .tc := ⟨.hbm, 141, rfl⟩
abbrev main_v77 : Ref sig .tc := ⟨.hbm, 142, rfl⟩
abbrev main_v78 : Ref sig .tc := ⟨.hbm, 143, rfl⟩
abbrev main_c_30 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_cst_31 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_cst_32 : Ref sig .tc := ⟨.hbm, 155, rfl⟩
abbrev main_v88 : Ref sig .tc := ⟨.hbm, 156, rfl⟩
abbrev main_cst_33 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_cst_34 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_cst_35 : Ref sig .tc := ⟨.hbm, 174, rfl⟩
abbrev main_cst_36 : Ref sig .tc := ⟨.hbm, 175, rfl⟩
abbrev main_call8_v0 : Ref sig .tc := ⟨.hbm, 176, rfl⟩
abbrev main_call8_v1 : Ref sig .tc := ⟨.hbm, 177, rfl⟩
abbrev main_call8_v2 : Ref sig .tc := ⟨.hbm, 178, rfl⟩
abbrev main_call8_v3 : Ref sig .tc := ⟨.hbm, 179, rfl⟩
abbrev main_call8_v4 : Ref sig .tc := ⟨.hbm, 180, rfl⟩
abbrev main_v104 : Ref sig .tc := ⟨.hbm, 181, rfl⟩
abbrev main_cst_37 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_c_38 : Ref sig .tc := ⟨.hbm, 187, rfl⟩
abbrev main_c_39 : Ref sig .tc := ⟨.hbm, 188, rfl⟩
abbrev main_call9_v0 : Ref sig .tc := ⟨.hbm, 189, rfl⟩
abbrev main_call9_v1 : Ref sig .tc := ⟨.hbm, 190, rfl⟩
abbrev main_call9_v2 : Ref sig .tc := ⟨.hbm, 191, rfl⟩
abbrev main_call9_v3 : Ref sig .tc := ⟨.hbm, 192, rfl⟩
abbrev main_call9_v4 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_cst_40 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_call10_v0 : Ref sig .tc := ⟨.hbm, 202, rfl⟩
abbrev main_call10_v1 : Ref sig .tc := ⟨.hbm, 203, rfl⟩
abbrev main_call10_v2 : Ref sig .tc := ⟨.hbm, 204, rfl⟩
abbrev main_call10_v3 : Ref sig .tc := ⟨.hbm, 205, rfl⟩
abbrev main_call10_v4 : Ref sig .tc := ⟨.hbm, 206, rfl⟩
abbrev main_v116 : Ref sig .tc := ⟨.hbm, 207, rfl⟩
abbrev main_v117 : Ref sig .tc := ⟨.hbm, 208, rfl⟩
abbrev main_c_41 : Ref sig .tc := ⟨.hbm, 209, rfl⟩
abbrev main_v118 : Ref sig .tc := ⟨.hbm, 210, rfl⟩
abbrev main_v119 : Ref sig .tc := ⟨.hbm, 211, rfl⟩
abbrev main_call11_v0 : Ref sig .tc := ⟨.hbm, 212, rfl⟩
abbrev main_call11_v1 : Ref sig .tc := ⟨.hbm, 213, rfl⟩
abbrev main_call11_v2 : Ref sig .tc := ⟨.hbm, 214, rfl⟩
abbrev main_call11_v3 : Ref sig .tc := ⟨.hbm, 215, rfl⟩
abbrev main_call11_v4 : Ref sig .tc := ⟨.hbm, 216, rfl⟩
abbrev main_v120 : Ref sig .tc := ⟨.hbm, 217, rfl⟩
abbrev main_v121 : Ref sig .tc := ⟨.hbm, 218, rfl⟩
abbrev main_cst_42 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_c_43 : Ref sig .tc := ⟨.hbm, 235, rfl⟩
abbrev main_call12_v0 : Ref sig .tc := ⟨.hbm, 236, rfl⟩
abbrev main_v137 : Ref sig .tc := ⟨.hbm, 237, rfl⟩
abbrev main_v138 : Ref sig .tc := ⟨.hbm, 238, rfl⟩
abbrev main_c_44 : Ref sig .tc := ⟨.hbm, 239, rfl⟩
abbrev main_v139 : Ref sig .tc := ⟨.hbm, 240, rfl⟩
abbrev main_v140 : Ref sig .tc := ⟨.hbm, 241, rfl⟩
abbrev main_c_45 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_c_46 : Ref sig .tc := ⟨.hbm, 246, rfl⟩
abbrev main_v144 : Ref sig .tc := ⟨.hbm, 247, rfl⟩
abbrev main_v145 : Ref sig .tc := ⟨.hbm, 248, rfl⟩
abbrev main_c_47 : Ref sig .tc := ⟨.hbm, 249, rfl⟩
abbrev main_v146 : Ref sig .tc := ⟨.hbm, 250, rfl⟩
abbrev main_c_48 : Ref sig .tc := ⟨.hbm, 251, rfl⟩
abbrev main_v147 : Ref sig .tc := ⟨.hbm, 252, rfl⟩
abbrev main_c_49 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_c_50 : Ref sig .tc := ⟨.hbm, 258, rfl⟩
abbrev main_call13_v0 : Ref sig .tc := ⟨.hbm, 259, rfl⟩
abbrev main_v152 : Ref sig .tc := ⟨.hbm, 260, rfl⟩
abbrev main_v153 : Ref sig .tc := ⟨.hbm, 261, rfl⟩
abbrev main_c_51 : Ref sig .tc := ⟨.hbm, 262, rfl⟩
abbrev main_v154 : Ref sig .tc := ⟨.hbm, 263, rfl⟩
abbrev main_v155 : Ref sig .tc := ⟨.hbm, 264, rfl⟩
abbrev main_c_52 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_c_53 : Ref sig .tc := ⟨.hbm, 269, rfl⟩
abbrev main_v159 : Ref sig .tc := ⟨.hbm, 270, rfl⟩
abbrev main_c_54 : Ref sig .tc := ⟨.hbm, 271, rfl⟩
abbrev main_v160 : Ref sig .tc := ⟨.hbm, 272, rfl⟩
abbrev main_v161 : Ref sig .tc := ⟨.hbm, 273, rfl⟩
abbrev main_c_55 : Ref sig .tc := ⟨.hbm, 274, rfl⟩
abbrev main_v162 : Ref sig .tc := ⟨.hbm, 275, rfl⟩
abbrev main_c_56 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_c_57 : Ref sig .tc := ⟨.hbm, 281, rfl⟩
abbrev main_call14_v0 : Ref sig .tc := ⟨.hbm, 282, rfl⟩
abbrev main_v167 : Ref sig .tc := ⟨.hbm, 283, rfl⟩
abbrev main_v168 : Ref sig .tc := ⟨.hbm, 284, rfl⟩
abbrev main_c_58 : Ref sig .tc := ⟨.hbm, 285, rfl⟩
abbrev main_v169 : Ref sig .tc := ⟨.hbm, 286, rfl⟩
abbrev main_v170 : Ref sig .tc := ⟨.hbm, 287, rfl⟩
abbrev main_c_59 : Ref sig .tc := ⟨.hbm, 288, rfl⟩
abbrev main_v171 : Ref sig .tc := ⟨.hbm, 289, rfl⟩
abbrev main_v172 : Ref sig .tc := ⟨.hbm, 290, rfl⟩
abbrev main_v173 : Ref sig .tc := ⟨.hbm, 291, rfl⟩
abbrev main_c_60 : Ref sig .tc := ⟨.hbm, 292, rfl⟩
abbrev main_v174 : Ref sig .tc := ⟨.hbm, 293, rfl⟩
abbrev main_c_61 : Ref sig .tc := ⟨.hbm, 294, rfl⟩
abbrev main_v175 : Ref sig .tc := ⟨.hbm, 295, rfl⟩
abbrev main_c_62 : Ref sig .tc := ⟨.hbm, 296, rfl⟩
abbrev main_v176 : Ref sig .tc := ⟨.hbm, 297, rfl⟩
abbrev main_v177 : Ref sig .tc := ⟨.hbm, 298, rfl⟩
abbrev main_c_63 : Ref sig .tc := ⟨.hbm, 299, rfl⟩
abbrev main_v178 : Ref sig .tc := ⟨.hbm, 300, rfl⟩
abbrev main_v179 : Ref sig .tc := ⟨.hbm, 301, rfl⟩
abbrev main_v180 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_cst_64 : Ref sig .tc := ⟨.hbm, 306, rfl⟩
abbrev main_v184 : Ref sig .tc := ⟨.hbm, 307, rfl⟩
abbrev main_v185 : Ref sig .tc := ⟨.hbm, 308, rfl⟩
abbrev main_v186 : Ref sig .tc := ⟨.hbm, 309, rfl⟩
abbrev main_cst_65 : Ref sig .tc := ⟨.hbm, 310, rfl⟩
abbrev main_v187 : Ref sig .tc := ⟨.hbm, 311, rfl⟩
abbrev main_cst_66 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_v192 : Ref sig .tc := ⟨.hbm, 317, rfl⟩
abbrev main_v193 : Ref sig .tc := ⟨.hbm, 318, rfl⟩
abbrev main_v194 : Ref sig .tc := ⟨.hbm, 319, rfl⟩
abbrev main_v195 : Ref sig .tc := ⟨.hbm, 320, rfl⟩
abbrev main_v196 : Ref sig .tc := ⟨.hbm, 321, rfl⟩
abbrev main_cst_67 : Ref sig .tc := ⟨.hbm, 322, rfl⟩
abbrev main_v197 : Ref sig .tc := ⟨.hbm, 323, rfl⟩
abbrev main_v198 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_v203 : Ref sig .tc := ⟨.hbm, 329, rfl⟩
abbrev main_v204 : Ref sig .tc := ⟨.hbm, 330, rfl⟩

abbrev nD : Nat := 1
abbrev τ : Topo := Topo.v7x

variable {F : FTy → Type} [FloatOps F]
-- ==== Proof.KernelRun.lean ====
/- The run of the whole program: its result array and its arguments at the end. -/
module

public import proofs.«01_k».proof.Proof.Gen.KernelIdeal.Frame
public import Idealize.ShloMosaic.Lib.IdealHost

@[expose] public section

set_option maxRecDepth 16384

noncomputable section

namespace Cert.Proof.KernelRun

open Idealize Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the result array at what the second stage leaves in it and the arguments as they were. -/
theorem run : θ_run defs (onTc (τ := τ) (main (F := Ideal))) ⟨m, fun _ => 0, ρ⟩ (fun r => ∀ c : Dev nD,
      r.2.mem ((c.tc : Thread nD τ).loc main_v1111) = W12 m ρ c (Proc.devRef .tc main_v1111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_sems (pcfgs (F := Ideal)) adm (pdats m ρ) () cellOf_inj emb₁ defs₀ 𝒱₀ L lv m ρ main
    (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) ?_
    (T₀ := fun c => iprop(StableHlo.held (c : Thread nD τ) (Pipeline.ucRefs τ sig) (W0 m ρ c) ∗ R c)) (Tₙ := Tₙ m ρ)
    (hch := by repeat' first | exact trivial | exact fun _ => .rfl | constructor) ?_
    (QY := fun c s => ∀ b ∈ Pipeline.ucRefs τ sig, s.mem (((c : Thread nD τ)).1, b) = W12 m ρ c b) ?_ ?_
  · iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by
      rw [BI.bigSep_emp_const])
    iempintro
  · refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hh, -, HO, -, Hp, -⟩, -⟩
    imodintro
    isplitl [Hh]
    · iexact Hh
    isplitl [Hp]
    · iexists _
      iexact Hp
    iexists ∅
    iexact HO
  · intro c s
    iintro ⟨⟨Hh, -⟩, HS⟩
    unfold StableHlo.held
    imodintro
    iapply (pointsTo_read_all (Pipeline.ucRefs τ sig) (fun b => (((c : Thread nD τ)).1, b)) (W12 m ρ c) s)
    isplitl [Hh] <;> iassumption
  · intro s h _ c
    have at_end : ∀ r : Ref sig .tc, ¬ (Proc.devRef .tc r : DevRef τ sig).isScoped →
        s.mem ((c.tc : Thread nD τ).loc r) = W12 m ρ c (Proc.devRef .tc r) := fun r hr => h c _ (mem_uc r hr)
    have kept : ∀ a ∈ argRefs, ¬ (Proc.devRef .tc a : DevRef τ sig).isScoped → s.mem ((c.tc : Thread nD τ).loc a) = m ((c.tc : Thread nD τ).loc a) :=
      fun a ha hr => (at_end a hr).trans (W12_args m ρ c a ha)
    exact ⟨at_end _ (by decide), kept _ (by decide) (by decide), kept _ (by decide) (by decide),
      kept _ (by decide) (by decide), kept _ (by decide) (by decide), kept _ (by decide) (by decide)⟩

end Cert.Proof.KernelRun

end
-- ==== Proof.RealModel.lean ====
/- The bilateral grid over the real numbers: the linear interpolation weight, the two-pass spatial sum over a zero-padded
   plane, and the two orders in which the range blur and the slice can be composed. -/
module

public import Idealize.ShloMosaic.Lib.IdealHost
public import Mathlib.Tactic.Ring
public import Mathlib.Tactic.Linarith
public import Mathlib.Tactic.NormNum

@[expose] public section

noncomputable section

namespace Cert.Proof.Model

open scoped BigOperators

/-- The linear interpolation weight of plane `d` at the range coordinate `z`. -/
def hat (z : ℝ) (d : ℕ) : ℝ := max (1 - |z - d|) 0

/-- The range coordinate of a guide value: clipped to the unit interval, times 31. -/
def zOf (y : ℝ) : ℝ := min (max y 0) 1 * 31

theorem zOf_nonneg (y : ℝ) : 0 ≤ zOf y :=
  mul_nonneg (le_min (le_max_right _ _) zero_le_one) (by norm_num)

theorem zOf_le (y : ℝ) : zOf y ≤ 31 := by
  have : min (max y 0) 1 ≤ (1 : ℝ) := min_le_right _ _
  unfold zOf; linarith

/-- The lower of the two planes next to `z`. -/
def low (z : ℝ) : ℕ := (min (max ⌊z⌋ 0) 30).toNat

theorem low_cast (z : ℝ) : (low z : ℤ) = min (max ⌊z⌋ 0) 30 := by
  unfold low; omega

/-- Between 0 and 31 the lower plane is at most one below. -/
theorem low_bounds {z : ℝ} (h0 : 0 ≤ z) (h1 : z ≤ 31) : (low z : ℝ) ≤ z ∧ z ≤ low z + 1 ∧ low z ≤ 30 := by
  have hl := low_cast z
  have hf : 0 ≤ ⌊z⌋ := Int.floor_nonneg.mpr h0
  have ha : ((low z : ℤ) : ℝ) ≤ z := by
    rw [← Int.le_floor]; omega
  refine ⟨by exact_mod_cast ha, ?_, by omega⟩
  by_cases hb : ⌊z⌋ ≤ 30
  · have : (low z : ℤ) = ⌊z⌋ := by omega
    have h2 : z < (⌊z⌋ : ℝ) + 1 := Int.lt_floor_add_one z
    have h3 : ((low z : ℕ) : ℝ) = (⌊z⌋ : ℝ) := by exact_mod_cast congrArg (Int.cast (R := ℝ)) this
    linarith
  · have : low z = 30 := by omega
    rw [this]; norm_num; linarith

/-- The two one-hot planes with their interpolation weights are the interpolation weight of every plane. -/
theorem two_planes {z : ℝ} (h0 : 0 ≤ z) (h1 : z ≤ 31) (d : ℕ) :
    (if low z = d then (1 : ℝ) else 0) * (1 - (z - low z)) + (if low z + 1 = d then (1 : ℝ) else 0) * (z - low z)
      = hat z d := by
  obtain ⟨ha, hb, -⟩ := low_bounds h0 h1
  unfold hat
  rcases lt_trichotomy (low z) d with h | h | h
  · rw [if_neg (by omega)]
    by_cases h' : low z + 1 = d
    · rw [if_pos h']
      have : (d : ℝ) = low z + 1 := by exact_mod_cast h'.symm
      rw [this, abs_of_nonpos (by linarith), max_eq_left (by linarith)]; ring
    · rw [if_neg h']
      have : (low z : ℝ) + 2 ≤ d := by exact_mod_cast (show low z + 2 ≤ d by omega)
      rw [abs_of_nonpos (by linarith), max_eq_right (by linarith)]; ring
  · rw [if_pos h, if_neg (by omega), ← h, abs_of_nonneg (by linarith), max_eq_left (by linarith)]; ring
  · rw [if_neg (by omega), if_neg (by omega)]
    have : (d : ℝ) + 1 ≤ low z := by exact_mod_cast (show d + 1 ≤ low z by omega)
    rw [abs_of_nonneg (by linarith), max_eq_right (by linarith)]; ring

/-- Outside the plane, at coordinate zero, only plane 0 has a weight. -/
theorem hat_zero (d : ℕ) : hat 0 d = if d = 0 then 1 else 0 := by
  unfold hat
  rcases Nat.eq_zero_or_pos d with h | h
  · subst h; norm_num
  · rw [if_neg (by omega)]
    have : (1 : ℝ) ≤ d := by exact_mod_cast h
    rw [zero_sub, abs_neg, abs_of_nonneg (by linarith), max_eq_right (by linarith)]

/-- A 512 by 512 plane with `r` rows and columns of zeros around it. -/
def padded (r : ℕ) (g : ℕ → ℕ → ℝ) (h w : ℕ) : ℝ :=
  if (r ≤ h ∧ h < 512 + r) ∧ r ≤ w ∧ w < 512 + r then g (h - r) (w - r) else 0

/-- The spatial sum: the taps along both axes of a padded plane, the columns outermost. -/
def spread {T : ℕ} (f : Fin T → ℝ) (P : ℕ → ℕ → ℝ) (H W : ℕ) : ℝ :=
  ∑ j : Fin T, f j * ∑ i : Fin T, f i * P (H + i) (W + j)

/-- The range band: the tap that joins plane `d` to plane `e`. -/
def band (fr : Fin 13 → ℝ) (d e : ℕ) : ℝ := ∑ k : Fin 13, fr k * if d + k = e + 6 then 1 else 0

/-- The kernel's order: per plane, the slice's weight through the range band times the spatial sum. -/
def viaBand {T : ℕ} (r : ℕ) (f : Fin T → ℝ) (fr : Fin 13 → ℝ) (z x : ℕ → ℕ → ℝ) (H W : ℕ) : ℝ :=
  ∑ d : Fin 32, (∑ e : Fin 32, band fr d e * hat (z H W) e)
    * spread f (padded r fun h w => hat (z h w) d * x h w) H W

/-- Rows first, as the reference blurs. -/
def rows {T : ℕ} (r : ℕ) (f : Fin T → ℝ) (g : ℕ → ℕ → ℝ) (H W : ℕ) : ℝ :=
  ∑ i : Fin T, f i * if r ≤ H + i ∧ H + i < 512 + r then g (H + i - r) W else 0

/-- Then columns. -/
def cols {T : ℕ} (r : ℕ) (f : Fin T → ℝ) (g : ℕ → ℕ → ℝ) (H W : ℕ) : ℝ :=
  ∑ j : Fin T, f j * if r ≤ W + j ∧ W + j < 512 + r then g H (W + j - r) else 0

/-- Then the range axis of 32 planes. -/
def planes (fr : Fin 13 → ℝ) (G : ℕ → ℝ) (e : ℕ) : ℝ :=
  ∑ k : Fin 13, fr k * if 6 ≤ e + k ∧ e + k < 38 then G (e + k - 6) else 0

/-- The two passes over the zero-padded plane are the spatial sum. -/
theorem cols_rows {T : ℕ} (r : ℕ) (f : Fin T → ℝ) (g : ℕ → ℕ → ℝ) (H W : ℕ) :
    cols r f (rows r f g) H W = spread f (padded r g) H W := by
  unfold cols rows spread padded
  refine Finset.sum_congr rfl fun j _ => congrArg (f j * ·) ?_
  by_cases hj : r ≤ W + j ∧ W + j < 512 + r
  · rw [if_pos hj]
    refine Finset.sum_congr rfl fun i _ => congrArg (f i * ·) ?_
    by_cases hi : r ≤ H + i ∧ H + i < 512 + r
    · rw [if_pos hi, if_pos ⟨hi, hj⟩]
    · rw [if_neg hi, if_neg fun h => hi h.1]
  · rw [if_neg hj]
    refine (Finset.sum_eq_zero fun i _ => ?_).symm
    rw [if_neg fun h => hj h.2, mul_zero]

/-- The blur of the 32 planes at plane `e`, as a sum over the planes it reads. -/
theorem planes_eq (fr : Fin 13 → ℝ) (G : ℕ → ℝ) (e : ℕ) :
    planes fr G e = ∑ d : Fin 32, (∑ k : Fin 13, fr k * if e + k = d + 6 then 1 else 0) * G d := by
  unfold planes
  simp only [Finset.sum_mul]
  rw [Finset.sum_comm]
  refine Finset.sum_congr rfl fun k _ => ?_
  by_cases h : 6 ≤ e + k ∧ e + k < 38
  · rw [if_pos h, Finset.sum_eq_single (⟨e + k - 6, by omega⟩ : Fin 32)]
    · rw [if_pos (by simp only; omega)]; ring
    · intro d _ hd
      rw [if_neg fun hk => hd (Fin.ext (by simp only; omega))]; ring
    · intro h'; exact absurd (Finset.mem_univ _) h'
  · rw [if_neg h]
    rw [mul_zero]
    refine (Finset.sum_eq_zero fun d _ => ?_).symm
    rw [if_neg (by have := d.2; omega)]; ring

/-- Under even range taps the band joins plane `d` to `e` as the blur joins `e` to `d`. -/
theorem band_even (fr : Fin 13 → ℝ) (hfr : ∀ k, fr k = fr k.rev) (d e : ℕ) :
    band fr d e = ∑ k : Fin 13, fr k * if e + k = d + 6 then 1 else 0 := by
  unfold band
  refine Fintype.sum_equiv Fin.revPerm _ _ fun k => ?_
  rw [Fin.revPerm_apply, ← hfr k]
  congr 1
  have h1 : (k.rev : ℕ) = 12 - k := by rw [Fin.val_rev]; omega
  have h2 := k.2
  exact if_congr (by omega) rfl rfl

/-- The reference's order: blur the planes, then weigh them at the guide. -/
def viaSlice {T : ℕ} (r : ℕ) (f : Fin T → ℝ) (fr : Fin 13 → ℝ) (z x : ℕ → ℕ → ℝ) (H W : ℕ) : ℝ :=
  ∑ e : Fin 32, hat (z H W) e * planes fr (fun d => cols r f (rows r f fun h w => hat (z h w) d * x h w) H W) e

/-- Under even range taps both orders agree. -/
theorem viaSlice_eq {T : ℕ} (r : ℕ) (f : Fin T → ℝ) (fr : Fin 13 → ℝ) (hfr : ∀ k, fr k = fr k.rev)
    (z x : ℕ → ℕ → ℝ) (H W : ℕ) : viaSlice r f fr z x H W = viaBand r f fr z x H W := by
  unfold viaSlice viaBand
  simp only [planes_eq, cols_rows, ← band_even fr hfr, Finset.mul_sum, Finset.sum_mul]
  rw [Finset.sum_comm]
  exact Finset.sum_congr rfl fun d _ => Finset.sum_congr rfl fun e _ => by ring

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Proof.Model

end
-- ==== Proof.TileStep.lean ====
/- One tile of the bilateral grid, as vector operations: the 32 interpolation weights, the range band, the two band
   products of each plane, the accumulation over planes, and the value read at an index. The side `n` of the haloed block
   is a parameter, so both stages of the program use these definitions. -/
module

public import proofs.«01_k».proof.Proof.RealModel
public import proofs.«01_k».proof.Proof.Gen.KernelIdeal
public import Idealize.ShloMosaic.Lib.Pointwise

@[expose] public section

set_option maxRecDepth 16384

noncomputable section

namespace Cert.Proof.Tile

open Idealize Idealize.ShloMosaic Cert.KernelIdeal Cert.Proof.Model
open scoped BigOperators

/-- The float words of the plane numbers 0 to 31. -/
def word : Fin 32 → BitVec 32 :=
  ![0x00000000#32, 0x3F800000#32, 0x40000000#32, 0x40400000#32, 0x40800000#32, 0x40A00000#32, 0x40C00000#32,
    0x40E00000#32, 0x41000000#32, 0x41100000#32, 0x41200000#32, 0x41300000#32, 0x41400000#32, 0x41500000#32,
    0x41600000#32, 0x41700000#32, 0x41800000#32, 0x41880000#32, 0x41900000#32, 0x41980000#32, 0x41A00000#32,
    0x41A80000#32, 0x41B00000#32, 0x41B80000#32, 0x41C00000#32, 0x41C80000#32, 0x41D00000#32, 0x41D80000#32,
    0x41E00000#32, 0x41E80000#32, 0x41F00000#32, 0x41F80000#32]

/-- The larger of two reals, read in the extended reals. -/
theorem coe_max (a b : ℝ) : ((max a b : ℝ) : EReal) = max (a : EReal) b := EReal.coe_strictMono.monotone.map_max

/-- The smaller of two reals, read in the extended reals. -/
theorem coe_min (a b : ℝ) : ((min a b : ℝ) : EReal) = min (a : EReal) b := EReal.coe_strictMono.monotone.map_min

/-- The word of plane `e` denotes the number `e`. -/
theorem ofBits_word (e : Fin 32) : Ideal.ofBits .f32 (word e) = ((e : ℝ) : EReal) := by
  fin_cases e <;> simp [word, Ideal.ofBits, Ideal.ieee, -EReal.coe_mul] <;> norm_num

/-- The word 1.0 denotes one. -/
theorem ofBits_one : Ideal.ofBits .f32 0x3F800000#32 = ((1 : ℝ) : EReal) := by
  simpa [word] using ofBits_word 1

/-- The zero word denotes zero. -/
theorem ofBits_nil : Ideal.ofBits .f32 0x00000000#32 = ((0 : ℝ) : EReal) := by
  simpa [word] using ofBits_word 0

/-- The word 31.0 denotes thirty-one. -/
theorem ofBits_top : Ideal.ofBits .f32 0x41F80000#32 = ((31 : ℝ) : EReal) := by
  simpa [word] using ofBits_word 31

/-- The least denominator, as a real number. -/
def eps : ℝ := (Ideal.ofBits .f32 0x322BCC77#32).toReal

theorem eps_spec : Ideal.ofBits .f32 0x322BCC77#32 = ((eps : ℝ) : EReal) ∧ 0 < eps := by
  have h : ∃ r : ℝ, 0 < r ∧ Ideal.ofBits .f32 0x322BCC77#32 = ((r : ℝ) : EReal) := by
    refine ⟨11258999 * (1 / 2 ^ 50), by norm_num, ?_⟩
    simp [Ideal.ofBits, Ideal.ieee, -EReal.coe_mul]
  obtain ⟨r, hr, h⟩ := h
  unfold eps
  rw [h, EReal.toReal_coe]
  exact ⟨rfl, hr⟩

variable {n : ℕ}

/-- A block with its halo, of side `n`. -/
abbrev Halo (n : ℕ) : Shape := ⟨2, ![n, n]⟩

/-- The row band's shape. -/
abbrev Wide (n : ℕ) : Shape := ⟨2, ![128, n]⟩

/-- The column band's shape. -/
abbrev Tall (n : ℕ) : Shape := ⟨2, ![n, 128]⟩

/-- The interpolation weight of the plane with number word `w`, over a block of range coordinates. -/
def hatV {s : Shape} (w : BitVec 32) (z : FVec Ideal s .f32) : FVec Ideal s .f32 :=
  maximumf (subf (broadcast s (Scalar.ofBits .f32 0x3F800000#32)) (absf (subf z (broadcast s (Scalar.ofBits .f32 w)))))
    (broadcast s (Scalar.ofBits .f32 0x00000000#32))

/-- The range coordinates of a block of guide values. -/
def zV {s : Shape} (y : FVec Ideal s .f32) : FVec Ideal s .f32 :=
  mulf (minimumf (broadcast s (Scalar.ofBits .f32 0x3F800000#32))
    (maximumf (broadcast s (Scalar.ofBits .f32 0x00000000#32)) y)) (broadcast s (Scalar.ofBits .f32 0x41F80000#32))

theorem shapeCasts_plane : S128x128.ShapeCasts S1x128x128 := by decide

theorem shapeCasts_drop : S1x128x128.ShapeCasts S128x128 := by decide

/-- The 32 weights of a block of range coordinates, stacked. -/
def stackV (z : FVec Ideal S128x128 .f32) : FVec Ideal S32x128x128 .f32 :=
  concatenate S32x128x128 0
    (List.ofFn fun e : Fin 32 => (⟨S1x128x128, shapeCast S1x128x128 (hatV (word e) z) shapeCasts_plane⟩ :
      (s : Shape) × (s.Idx → Ideal .f32)))
    Cert.KernelIdeal.Gen.concatenates_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S32x128x128_d0

/-- One plane lies in the stack. -/
theorem slices_plane {k : ℕ} (h : k < 32) : S32x128x128.Slices ![k, 0, 0] S1x128x128 := by
  refine ⟨rfl, fun a => ?_⟩
  fin_cases a
  · show k + 1 ≤ 32; omega
  · show 0 + 128 ≤ 128; omega
  · show 0 + 128 ≤ 128; omega

variable (d1 : DotDims (Wide n) (Halo n) (Wide n)) (d2 : DotDims (Wide n) (Tall n) S128x128)
variable (c3 : FVec Ideal S32x128x128 .f32) (ah : FVec Ideal (Wide n) .f32) (aw : FVec Ideal (Tall n) .f32)

/-- The two band products of a block. -/
def bandsV (x : FVec Ideal (Halo n) .f32) : FVec Ideal S128x128 .f32 :=
  matmul d2 none (matmul d1 none ah x (constant (Wide n) .f32 0x00000000#32)) aw (constant S128x128 .f32 0x00000000#32)

/-- The accumulation over the first `k` planes. -/
def accV (x : ℕ → FVec Ideal (Halo n) .f32) : (k : ℕ) → k ≤ 32 → FVec Ideal S128x128 .f32
  | 0, _ => broadcast S128x128 (Scalar.ofBits .f32 0x00000000#32)
  | k + 1, h => addf (accV x k (Nat.le_of_succ_le h))
      (mulf (shapeCast S128x128 (extractStridedSlice S1x128x128 ![k, 0, 0] c3 (slices_plane h)) shapeCasts_drop)
        (bandsV d1 d2 ah aw (x k)))

/-- The planes of a channel: its values under the plane's weight. -/
def chanV (z v : FVec Ideal (Halo n) .f32) (k : ℕ) : FVec Ideal (Halo n) .f32 :=
  mulf (hatV (word (Fin.ofNat 32 k)) z) v

/-- The planes of the weight itself: plane 0 only inside the image. -/
def oneV (z mask : FVec Ideal (Halo n) .f32) : ℕ → FVec Ideal (Halo n) .f32
  | 0 => mulf (hatV (word 0) z) mask
  | k + 1 => hatV (word (Fin.ofNat 32 (k + 1))) z

/-- The accumulated channel over the accumulated weight. -/
def quotV (num den : FVec Ideal S128x128 .f32) : FVec Ideal S128x128 .f32 :=
  divf num (maximumf den (broadcast S128x128 (Scalar.ofBits .f32 0x322BCC77#32)))

/-- A whole tile: the channel `v` under the guide `y`, over the weight. -/
def tileV (dc : DotDims S32x32 S32x128x128 S32x128x128) (d1 : DotDims (Wide n) (Halo n) (Wide n))
    (d2 : DotDims (Wide n) (Tall n) S128x128) (r : ℕ) (hsl : Shape.Slices (Halo n) ![r, r] S128x128)
    (fr : FVec Ideal S32x32 .f32) (ah : FVec Ideal (Wide n) .f32) (aw : FVec Ideal (Tall n) .f32)
    (y v mask : FVec Ideal (Halo n) .f32) : FVec Ideal S128x128 .f32 :=
  quotV (accV d1 d2 (matmul dc none fr (stackV (extractStridedSlice S128x128 ![r, r] (zV y) hsl))
      (constant S32x128x128 .f32 0x00000000#32)) ah aw (chanV (zV y) v) 32 (le_refl _))
    (accV d1 d2 (matmul dc none fr (stackV (extractStridedSlice S128x128 ![r, r] (zV y) hsl))
      (constant S32x128x128 .f32 0x00000000#32)) ah aw (oneV (zV y) mask) 32 (le_refl _))

/-- The interpolation weight read at an index. -/
theorem hatV_apply {s : Shape} (e : Fin 32) (z : FVec Ideal s .f32) (i : s.Idx) (zr : ℝ) (h : z i = ((zr : ℝ) : EReal)) :
    hatV (word e) z i = ((hat zr e : ℝ) : EReal) := by
  unfold hatV hat
  pointwise
  simp only [Ideal.ofBits_def, ofBits_word, h, Ideal.subf_def, Ideal.absf_def, Ideal.maximumf_def, abs_eq_max_neg,
    coe_max, EReal.coe_sub, EReal.coe_neg, EReal.coe_one, EReal.coe_zero]

/-- The range coordinate read at an index. -/
theorem zV_apply {s : Shape} (y : FVec Ideal s .f32) (i : s.Idx) (yr : ℝ) (h : y i = ((yr : ℝ) : EReal)) :
    zV y i = ((zOf yr : ℝ) : EReal) := by
  unfold zV zOf
  pointwise
  simp only [Ideal.ofBits_def, ofBits_top, h, Ideal.minimumf_def, Ideal.mulf_def, Ideal.maximumf_def, coe_max, coe_min,
    EReal.coe_mul, EReal.coe_one, EReal.coe_zero, max_comm, min_comm]

/-- The stacked weights read at an index. -/
theorem stackV_apply (z : FVec Ideal S128x128 .f32) (e : Fin 32) (i j : Fin 128) :
    stackV z (ix3 e i j) = hatV (word e) z (ix2 i j) := by
  unfold stackV
  pointwise

/-- What the three contractions of a tile compute, read at an index. -/
structure Dots (n : ℕ) (dc : DotDims S32x32 S32x128x128 S32x128x128) (d1 : DotDims (Wide n) (Halo n) (Wide n))
    (d2 : DotDims (Wide n) (Tall n) S128x128) : Prop where
  band : ∀ (a : FVec Ideal S32x32 .f32) (x : FVec Ideal S32x128x128 .f32) (d : Fin 32) (i j : Fin 128),
    matmul dc none a x (constant S32x128x128 .f32 0x00000000#32) (ix3 d i j) = ∑ e : Fin 32, a (ix2 d e) * x (ix3 e i j)
  rows : ∀ (a : FVec Ideal (Wide n) .f32) (x : FVec Ideal (Halo n) .f32) (i : Fin 128) (b : Fin n),
    matmul d1 none a x (constant (Wide n) .f32 0x00000000#32) (ix2 i b) = ∑ k : Fin n, a (ix2 i k) * x (ix2 k b)
  cols : ∀ (a : FVec Ideal (Wide n) .f32) (x : FVec Ideal (Tall n) .f32) (i j : Fin 128),
    matmul d2 none a x (constant S128x128 .f32 0x00000000#32) (ix2 i j) = ∑ k : Fin n, a (ix2 i k) * x (ix2 k j)

variable {d1 d2} {dc : DotDims S32x32 S32x128x128 S32x128x128}

/-- The two band products read at an index. -/
theorem bandsV_apply (D : Dots n dc d1 d2) (x : FVec Ideal (Halo n) .f32) (ahr : Fin 128 → Fin n → ℝ)
    (awr : Fin n → Fin 128 → ℝ) (X : Fin n → Fin n → ℝ)
    (hah : ∀ i a, ah (ix2 i a) = ((ahr i a : ℝ) : EReal)) (haw : ∀ b j, aw (ix2 b j) = ((awr b j : ℝ) : EReal))
    (hx : ∀ a b, x (ix2 a b) = ((X a b : ℝ) : EReal)) (i j : Fin 128) :
    bandsV d1 d2 ah aw x (ix2 i j) = ((∑ b : Fin n, (∑ a : Fin n, ahr i a * X a b) * awr b j : ℝ) : EReal) := by
  unfold bandsV
  rw [D.cols]
  simp only [D.rows, hah, haw, hx, coe_sum, EReal.coe_mul]

/-- The accumulation read at an index. -/
theorem accV_apply (D : Dots n dc d1 d2) (x : ℕ → FVec Ideal (Halo n) .f32) (i j : Fin 128) (C S : ℕ → ℝ)
    (hc : ∀ d (h : d < 32), c3 (ix3 ⟨d, h⟩ i j) = ((C d : ℝ) : EReal))
    (hs : ∀ d, d < 32 → bandsV d1 d2 ah aw (x d) (ix2 i j) = ((S d : ℝ) : EReal)) (k : ℕ) (hk : k ≤ 32) :
    accV d1 d2 c3 ah aw x k hk (ix2 i j) = ((∑ d ∈ Finset.range k, C d * S d : ℝ) : EReal) := by
  induction k with
  | zero => unfold accV; pointwise; simp
  | succ k ih =>
    unfold accV
    rw [Finset.sum_range_succ, EReal.coe_add, ← ih (by omega), EReal.coe_mul, ← hs k hk, ← hc k hk]
    pointwise

/-- A band entry: the tap that joins row `i` of the result to row `a` of the haloed block. -/
def tapAt {T : ℕ} (f : Fin T → ℝ) (i a : ℕ) : ℝ := ∑ t : Fin T, f t * if i + t = a then 1 else 0

/-- A band times a column of the block is the taps times the rows they reach. -/
theorem tapAt_sum {T : ℕ} (f : Fin T → ℝ) (X : ℕ → ℝ) (i n : ℕ) (h : i + T ≤ n) :
    ∑ a : Fin n, tapAt f i a * X a = ∑ t : Fin T, f t * X (i + t) := by
  unfold tapAt
  simp only [Finset.sum_mul]
  rw [Finset.sum_comm]
  refine Finset.sum_congr rfl fun t _ => ?_
  rw [Finset.sum_eq_single (⟨i + t, by omega⟩ : Fin n)]
  · rw [if_pos rfl, mul_one]
  · intro a _ ha
    rw [if_neg fun h' => ha (Fin.ext h'.symm), mul_zero, zero_mul]
  · intro h'; exact absurd (Finset.mem_univ _) h'

/-- The two band products of a block of a plane are the spatial sum of the plane. -/
theorem tapAt_spread {T : ℕ} (f : Fin T → ℝ) (P : ℕ → ℕ → ℝ) (H W n i j : ℕ) (hi : i + T ≤ n) (hj : j + T ≤ n) :
    ∑ b : Fin n, (∑ a : Fin n, tapAt f i a * P (H + a) (W + b)) * tapAt f j b = spread f P (H + i) (W + j) := by
  have e1 : ∀ b : Fin n, (∑ a : Fin n, tapAt f i a * P (H + a) (W + b)) * tapAt f j b
      = tapAt f j b * ∑ t : Fin T, f t * P (H + (i + t)) (W + b) := fun b => by
    rw [tapAt_sum f (fun a => P (H + a) (W + b)) i n hi, mul_comm]
  simp only [e1]
  rw [tapAt_sum f (fun b => ∑ t : Fin T, f t * P (H + (i + t)) (W + b)) j n hj]
  unfold spread
  simp only [Nat.add_assoc]

/-- A tile read at an index: the channel's and the weight's band forms, divided. The guide, the channel and the mask are
    blocks of zero-padded planes, the bands hold the taps. -/
theorem tileV_apply (D : Dots n dc d1 d2) {r T : ℕ} (hT : T = 2 * r + 1) (hn : n = 2 * r + 128)
    (hsl : Shape.Slices (Halo n) ![r, r] S128x128) (fr : FVec Ideal S32x32 .f32)
    (y v mask : FVec Ideal (Halo n) .f32) (f : Fin T → ℝ) (frr : Fin 13 → ℝ) (Y V : ℕ → ℕ → ℝ) (H W : ℕ)
    (hH : H + 128 ≤ 512) (hW : W + 128 ≤ 512)
    (hfr : ∀ d e : Fin 32, fr (ix2 d e) = ((band frr d e : ℝ) : EReal))
    (hah : ∀ (i : Fin 128) (a : Fin n), ah (ix2 i a) = ((tapAt f i a : ℝ) : EReal))
    (haw : ∀ (b : Fin n) (j : Fin 128), aw (ix2 b j) = ((tapAt f j b : ℝ) : EReal))
    (hy : ∀ a b : Fin n, y (ix2 a b) = ((padded r Y (H + a) (W + b) : ℝ) : EReal))
    (hv : ∀ a b : Fin n, v (ix2 a b) = ((padded r V (H + a) (W + b) : ℝ) : EReal))
    (hm : ∀ a b : Fin n, mask (ix2 a b) = ((padded r (fun _ _ => 1) (H + a) (W + b) : ℝ) : EReal))
    (i j : Fin 128) :
    tileV dc d1 d2 r hsl fr ah aw y v mask (ix2 i j)
      = ((viaBand r f frr (fun h w => zOf (Y h w)) V (H + i) (W + j)
          / max (viaBand r f frr (fun h w => zOf (Y h w)) (fun _ _ => 1) (H + i) (W + j)) eps : ℝ) : EReal) := by
  have hz : ∀ a b : Fin n, zV y (ix2 a b) = ((zOf (padded r Y (H + a) (W + b)) : ℝ) : EReal) := fun a b =>
    zV_apply y _ _ (hy a b)
  have hc : ∀ d (h : d < 32), matmul dc none fr (stackV (extractStridedSlice S128x128 ![r, r] (zV y) hsl))
      (constant S32x128x128 .f32 0x00000000#32) (ix3 ⟨d, h⟩ i j)
      = ((∑ e : Fin 32, band frr d e * hat (zOf (Y (H + i) (W + j))) e : ℝ) : EReal) := fun d h => by
    rw [D.band, coe_sum]
    refine Finset.sum_congr rfl fun e _ => ?_
    rw [stackV_apply, hfr, EReal.coe_mul]
    congr 1
    refine hatV_apply e _ _ _ ?_
    have e1 : extractStridedSlice S128x128 ![r, r] (zV y) hsl (ix2 i j)
        = zV y (ix2 ⟨r + i, by omega⟩ ⟨r + j, by omega⟩) := by
      refine congrArg (zV y) ?_
      funext a
      fin_cases a <;> rfl
    rw [e1, hz]
    have hi := i.2
    have hj := j.2
    unfold padded
    rw [if_pos (by simp only; omega)]
    simp only
    congr 3 <;> omega
  have hs : ∀ (x : ℕ → FVec Ideal (Halo n) .f32) (U : ℕ → ℕ → ℝ)
      (hx : ∀ d, d < 32 → ∀ a b : Fin n, x d (ix2 a b)
        = ((padded r (fun h w => hat (zOf (Y h w)) d * U h w) (H + a) (W + b) : ℝ) : EReal)) d, d < 32 →
      bandsV d1 d2 ah aw (x d) (ix2 i j)
        = ((spread f (padded r fun h w => hat (zOf (Y h w)) d * U h w) (H + i) (W + j) : ℝ) : EReal) := by
    intro x U hx d hd
    rw [bandsV_apply ah aw D (x d) (fun i a => tapAt f i a) (fun b j => tapAt f j b) _ hah haw (hx d hd)]
    exact congrArg _ (tapAt_spread f _ H W n i j (by omega) (by omega))
  have hchan : ∀ d, d < 32 → ∀ a b : Fin n, chanV (zV y) v d (ix2 a b)
        = ((padded r (fun h w => hat (zOf (Y h w)) d * V h w) (H + a) (W + b) : ℝ) : EReal) := by
    intro d hd a b
    have e1 : chanV (zV y) v d (ix2 a b) = hatV (word (Fin.ofNat 32 d)) (zV y) (ix2 a b) * v (ix2 a b) := rfl
    rw [e1, hatV_apply _ _ _ _ (hz a b), hv, ← EReal.coe_mul]
    have e2 : ((Fin.ofNat 32 d : Fin 32) : ℕ) = d := Nat.mod_eq_of_lt hd
    rw [e2]
    unfold padded
    split_ifs <;> simp
  have zOf0 : zOf 0 = 0 := by unfold zOf; norm_num
  have hone : ∀ d, d < 32 → ∀ a b : Fin n, oneV (zV y) mask d (ix2 a b)
        = ((padded r (fun h w => hat (zOf (Y h w)) d * 1) (H + a) (W + b) : ℝ) : EReal) := by
    intro d hd a b
    cases d with
    | zero =>
      have e1 : oneV (zV y) mask 0 (ix2 a b) = hatV (word 0) (zV y) (ix2 a b) * mask (ix2 a b) := rfl
      rw [e1, hatV_apply _ _ _ _ (hz a b), hm, ← EReal.coe_mul]
      unfold padded
      split_ifs <;> simp
    | succ d =>
      have e1 : oneV (zV y) mask (d + 1) (ix2 a b) = hatV (word (Fin.ofNat 32 (d + 1))) (zV y) (ix2 a b) := rfl
      have e2 : ((Fin.ofNat 32 (d + 1) : Fin 32) : ℕ) = d + 1 := Nat.mod_eq_of_lt hd
      rw [e1, hatV_apply _ _ _ _ (hz a b), e2]
      unfold padded
      split_ifs
      · simp
      · rw [zOf0, hat_zero, if_neg (by omega)]
  have key : ∀ (x : ℕ → FVec Ideal (Halo n) .f32) (U : ℕ → ℕ → ℝ)
      (hx : ∀ d, d < 32 → ∀ a b : Fin n, x d (ix2 a b)
        = ((padded r (fun h w => hat (zOf (Y h w)) d * U h w) (H + a) (W + b) : ℝ) : EReal)),
      accV d1 d2 (matmul dc none fr (stackV (extractStridedSlice S128x128 ![r, r] (zV y) hsl))
          (constant S32x128x128 .f32 0x00000000#32)) ah aw x 32 (le_refl _) (ix2 i j)
        = ((viaBand r f frr (fun h w => zOf (Y h w)) U (H + i) (W + j) : ℝ) : EReal) := by
    intro x U hx
    rw [accV_apply _ ah aw D x i j _ _ hc (hs x U hx) 32 (le_refl _)]
    unfold viaBand
    rw [Finset.sum_range]
  have e3 : ∀ num den : FVec Ideal S128x128 .f32, quotV num den (ix2 i j)
      = Ideal.div (num (ix2 i j)) (max (den (ix2 i j)) (Ideal.ofBits .f32 0x322BCC77#32)) := fun _ _ => rfl
  unfold tileV
  rw [e3, key _ V hchan, key _ (fun _ _ => 1) hone, eps_spec.1, ← coe_max,
    Ideal.div_coe (ne_of_gt (lt_max_of_lt_right eps_spec.2)), ← EReal.coe_mul, mul_one_div]

end Cert.Proof.Tile

end
-- ==== Proof.Region0.lean ====
/- What the first stage's body leaves in its three result windows. -/
module

public import proofs.«01_k».proof.Proof.TileStep
public import proofs.«01_k».proof.Proof.Gen.KernelIdeal.Frame

@[expose] public section

set_option maxRecDepth 16384

noncomputable section

namespace Cert.Proof.Region0

open Idealize Idealize.ShloMosaic Cert.KernelIdeal Cert.KernelIdeal.Gen Cert.Proof.Model Cert.Proof.Tile
open scoped BigOperators

/-- The mask of the first stage: one inside the image. -/
def maskV (i : grid0.Coords) : FVec Ideal S140x140 .f32 := k0_pay8 (k0_pay6 i) (k0_pay7 i)

/-- The first stage's tile, from its blocks. -/
def tile0 (i : grid0.Coords) (x0 : Vec Ideal S1x3x144x256 .f32) (x1 : Vec Ideal S128x140 .f32)
    (x2 : Vec Ideal S140x128 .f32) (x3 : Vec Ideal S32x32 .f32) : FVec Ideal S128x128 .f32 :=
  tileV (n := 140) dot_S32x32_S32x128x128_S32x128x128_1_0_0_12_n_n dot_S128x140_S140x140_S128x140_1_0_0_1_n_n
    dot_S128x140_S140x128_S128x128_1_0_0_1_n_n 6 slices_S140x140_o6_6_S128x128
    (k0_pay9 (View.ld x3 r0_3)) (k0_pay10 (View.ld x1 r0_4)) (k0_pay11 (View.ld x2 r0_5))
    (k0_pay5 (View.ld x0 r0_0) (View.ld x0 r0_1) (View.ld x0 r0_2))
    (k0_pay5 (View.ld x0 r0_0) (View.ld x0 r0_1) (View.ld x0 r0_2)) (maskV i)

/-- The first result window holds the tile. -/
theorem out0_4_eq (i : grid0.Coords) (x0 : Vec Ideal S1x3x144x256 .f32) (x1 : Vec Ideal S128x140 .f32)
    (x2 : Vec Ideal S140x128 .f32) (x3 : Vec Ideal S32x32 .f32) :
    out0_4 i x0 x1 x2 x3 = View.canon [⟨r0_6, k0_pay166 (tile0 i x0 x1 x2 x3)⟩] := by
  chain_rfl

end Cert.Proof.Region0

end
-- ==== Proof.Spec.lean ====
/- What the program computes, over the real numbers: the colour transform, the smoothing of one plane under a guide, the
   two stages, and the colour transform back. -/
module

public import proofs.«01_k».proof.Proof.TileStep

@[expose] public section

set_option maxRecDepth 16384

noncomputable section

namespace Cert.Proof.Spec

open Idealize Idealize.ShloMosaic Cert.Proof.Model Cert.Proof.Tile

/-- The real number of a float word. -/
def num (w : BitVec 32) : ℝ := (Ideal.ofBits .f32 w).toReal

/-- A word whose exponent is not the largest denotes its real number. -/
theorem ofBits_num (w : BitVec 32) (h : (w.extractLsb' 23 8).toNat ≠ 255) :
    Ideal.ofBits .f32 w = ((num w : ℝ) : EReal) := by
  have : ∃ r : ℝ, Ideal.ofBits .f32 w = ((r : ℝ) : EReal) := by
    show ∃ r : ℝ, Ideal.ieee 8 23 w = ((r : ℝ) : EReal)
    unfold Ideal.ieee
    simp only
    rw [if_neg (by simpa using h)]
    split_ifs
    all_goals exact ⟨_, rfl⟩
  obtain ⟨r, hr⟩ := this
  unfold num
  rw [hr, EReal.toReal_coe]

/-- Three planes under three coefficients. -/
def mix (k : Fin 3 → BitVec 32) (x y z : ℕ → ℕ → ℝ) (h w : ℕ) : ℝ :=
  num (k 0) * x h w + num (k 1) * y h w + num (k 2) * z h w

/-- The coefficients of the luminance and of the two chrominances. -/
def toYuv : Fin 3 → Fin 3 → BitVec 32 :=
  ![![0x3E991687#32, 0x3F1645A2#32, 0x3DE978D5#32], ![0xBE16A93F#32, 0xBE93E575#32, 0x3EDF3B64#32],
    ![0x3F1D70A4#32, 0xBF03D662#32, 0xBDCCD20B#32]]

/-- The coefficients of the three colours. -/
def toRgb : Fin 3 → Fin 3 → BitVec 32 :=
  ![![0x3F7FFFFF#32, 0xB745A5A0#32, 0x3F91E61A#32], ![0x3F800021#32, 0xBECA0F0D#32, 0xBF14A1D3#32],
    ![0x3F7FFEAB#32, 0x40020E1F#32, 0xB77D4BBE#32]]

theorem ofBits_toYuv (c k : Fin 3) : Ideal.ofBits .f32 (toYuv c k) = ((num (toYuv c k) : ℝ) : EReal) :=
  ofBits_num _ ((by decide : ∀ c k : Fin 3, ((toYuv c k).extractLsb' 23 8).toNat ≠ 255) c k)

theorem ofBits_toRgb (c k : Fin 3) : Ideal.ofBits .f32 (toRgb c k) = ((num (toRgb c k) : ℝ) : EReal) :=
  ofBits_num _ ((by decide : ∀ c k : Fin 3, ((toRgb c k).extractLsb' 23 8).toNat ≠ 255) c k)

/-- Plane `c` of the luminance and the chrominances of an image. -/
def yuv (P : Fin 3 → ℕ → ℕ → ℝ) (c : Fin 3) : ℕ → ℕ → ℝ := mix (toYuv c) (P 0) (P 1) (P 2)

/-- The plane `v` smoothed under the guide `y`. -/
def smooth {T : ℕ} (r : ℕ) (f : Fin T → ℝ) (fr : Fin 13 → ℝ) (y v : ℕ → ℕ → ℝ) (H W : ℕ) : ℝ :=
  viaBand r f fr (fun h w => zOf (y h w)) v H W / max (viaBand r f fr (fun h w => zOf (y h w)) (fun _ _ => 1) H W) eps

/-- The smoothed luminance. -/
def lum (f : Fin 13 → ℝ) (fr : Fin 13 → ℝ) (P : Fin 3 → ℕ → ℕ → ℝ) : ℕ → ℕ → ℝ :=
  smooth 6 f fr (yuv P 0) (yuv P 0)

/-- Colour `c` of the result, from the smoothed luminance and the two chrominances. -/
def colour (f : Fin 61 → ℝ) (fr : Fin 13 → ℝ) (L u v : ℕ → ℕ → ℝ) (c : Fin 3) : ℕ → ℕ → ℝ :=
  mix (toRgb c) L (smooth 30 f fr L u) (smooth 30 f fr L v)

/-- The whole program: colour `c` of the smoothed image. -/
def result (fs fr : Fin 13 → ℝ) (gs : Fin 61 → ℝ) (gr : Fin 13 → ℝ) (P : Fin 3 → ℕ → ℕ → ℝ) (c : Fin 3) : ℕ → ℕ → ℝ :=
  colour gs gr (lum fs fr P) (yuv P 1) (yuv P 2) c

/-- Padding commutes with the mix. -/
theorem padded_mix (r : ℕ) (k : Fin 3 → BitVec 32) (x y z : ℕ → ℕ → ℝ) (h w : ℕ) :
    padded r (mix k x y z) h w
      = num (k 0) * padded r x h w + num (k 1) * padded r y h w + num (k 2) * padded r z h w := by
  unfold padded mix
  split_ifs <;> simp

/-- Inside the image a padded plane is the plane. -/
theorem padded_inside (r : ℕ) (x : ℕ → ℕ → ℝ) {h w : ℕ} (hh : h < 512) (hw : w < 512) :
    padded r x (r + h) (r + w) = x h w := by
  unfold padded
  rw [if_pos (by omega)]
  congr 1 <;> omega

end Cert.Proof.Spec

end
-- ==== Proof.Region0Value.lean ====
/- The first stage's arrays after its grid: the smoothed luminance and the two chrominances. -/
module

public import proofs.«01_k».proof.Proof.Region0
public import proofs.«01_k».proof.Proof.Spec
public import Idealize.ShloMosaic.Lib.Pipeline.ValueKit

@[expose] public section

set_option maxRecDepth 16384

noncomputable section

namespace Cert.Proof.Region0

open Idealize Idealize.ShloMosaic Cert.KernelIdeal Cert.KernelIdeal.Gen Cert.Proof.Model Cert.Proof.Tile Cert.Proof.Spec
open Idealize.ShloMosaic.TcCoe
open scoped BigOperators

/-- The first stage's three contractions. -/
theorem dots : Dots 140 dot_S32x32_S32x128x128_S32x128x128_1_0_0_12_n_n dot_S128x140_S140x140_S128x140_1_0_0_1_n_n
    dot_S128x140_S140x128_S128x128_1_0_0_1_n_n where
  band a x d i j := by pointwise
  rows a x i b := by pointwise
  cols a x i j := by pointwise

/-- The mask's conditions on one axis at tile `t`: row or column `a` of the block lies inside the image. -/
theorem inside_word : ∀ (t : Fin 4) (a : Fin 140),
    IntOp.andi (IntOp.cmpi .sge (IntOp.addi (BitVec.ofNat 32 a) (Scalar.subi (Scalar.muli (BitVec.ofNat 32 t) 128#32) 6#32))
        0#32)
      (IntOp.cmpi .slt (IntOp.addi (BitVec.ofNat 32 a) (Scalar.subi (Scalar.muli (BitVec.ofNat 32 t) 128#32) 6#32)) 512#32)
    = BitVec.ofBool (decide (6 ≤ t.val * 128 + a.val ∧ t.val * 128 + a.val < 512 + 6)) := by
  decide +kernel

/-- The mask read at an index. -/
theorem mask_apply (i : grid0.Coords) (a b : Fin 140) :
    maskV i (ix2 a b) = ((padded 6 (fun _ _ => 1) ((i 1).val * 128 + a) ((i 2).val * 128 + b) : ℝ) : EReal) := by
  have e := inside_word (i 1) a
  have e' := inside_word (i 2) b
  unfold maskV k0_pay8 k0_pay7 k0_pay6 padded
  pointwise
  rw [e, show ∀ x y z : BitVec 1, IntOp.andi (IntOp.andi x y) z = IntOp.andi x (IntOp.andi y z) from
    fun x y z => BitVec.and_assoc x y z, e']
  by_cases h : 6 ≤ (i 1).val * 128 + a.val ∧ (i 1).val * 128 + a.val < 512 + 6 <;>
  by_cases h' : 6 ≤ (i 2).val * 128 + b.val ∧ (i 2).val * 128 + b.val < 512 + 6 <;>
  simp [h, h', Scalar.select, IntOp.andi]

variable (V : (c : Dev nD) → (b : Ref sig .tc) → Buf (Elt Ideal) ((c : Thread nD τ).loc b)) (c : Dev nD)

/-- Where each window's block begins. -/
theorem index_in : ∀ t : Fin grid0.N, win0_0.index t
    = ![(grid0.coords t 0).val, 0, (grid0.coords t 1).val * 128, (grid0.coords t 2).val * 128] := by
  decide +kernel

theorem index_const : ∀ t : Fin grid0.N, win0_1.index t = ![0, 0] ∧ win0_2.index t = ![0, 0] ∧ win0_3.index t = ![0, 0] := by
  decide +kernel

theorem index_out : ∀ t : Fin grid0.N, win0_4.index t = ![(grid0.coords t 0).val, (grid0.coords t 1).val, (grid0.coords t 2).val]
    ∧ win0_5.index t = ![(grid0.coords t 0).val, (grid0.coords t 1).val, (grid0.coords t 2).val]
    ∧ win0_6.index t = ![(grid0.coords t 0).val, (grid0.coords t 1).val, (grid0.coords t 2).val] := by
  decide +kernel

/-- The image block of a grid point. -/
theorem block0 (t : Fin cfg0.N) (ch : Fin 3) (a : Fin 144) (b : Fin 256) (h0 : (grid0.coords t 0).val < 2)
    (h1 : (grid0.coords t 1).val * 128 + a.val < 528) (h2 : (grid0.coords t 2).val * 128 + b.val < 640) :
    (iblk0 V c 0 t : Vec Ideal S1x3x144x256 .f32) (ix4 0 ch a b) = V c main_v145 (ix4 ⟨(grid0.coords t 0).val, h0⟩ ch
      ⟨(grid0.coords t 1).val * 128 + a, h1⟩ ⟨(grid0.coords t 2).val * 128 + b, h2⟩) := by
  blk_simp [iblk0]
  refine congrArg (V c main_v145) (funext fun x => Fin.ext ?_)
  refine (Pipeline.Window.rect_emb_val_off win0_0 t _ _).trans ?_
  rw [index_in]
  fin_cases x <;> simp [ix4]

/-- The other three operands are whole arrays. -/
theorem block1 (t : Fin cfg0.N) : iblk0 V c 1 t = V c main_v143 := by
  funext y
  blk_simp [iblk0]
  refine congrArg (V c main_v143) (funext fun x => Fin.ext ?_)
  refine Pipeline.Window.rect_emb_val_of_index_zero win0_1 t x ?_ y
  rw [(index_const t).1]
  fin_cases x <;> rfl

theorem block2 (t : Fin cfg0.N) : iblk0 V c 2 t = V c main_v144 := by
  funext y
  blk_simp [iblk0]
  refine congrArg (V c main_v144) (funext fun x => Fin.ext ?_)
  refine Pipeline.Window.rect_emb_val_of_index_zero win0_2 t x ?_ y
  rw [(index_const t).2.1]
  fin_cases x <;> rfl

theorem block3 (t : Fin cfg0.N) : iblk0 V c 3 t = V c main_v289 := by
  funext y
  blk_simp [iblk0]
  refine congrArg (V c main_v289) (funext fun x => Fin.ext ?_)
  refine Pipeline.Window.rect_emb_val_of_index_zero win0_3 t x ?_ y
  rw [(index_const t).2.2]
  fin_cases x <;> rfl

/-- What the first stage finds in its operands: the padded image, the spatial bands and the range band. -/
structure Entry (P : ℕ → Fin 3 → ℕ → ℕ → ℝ) (f fr : Fin 13 → ℝ) : Prop where
  img : ∀ (b : Fin 2) (ch : Fin 3) (h : Fin 528) (w : Fin 640),
    V c main_v145 (ix4 b ch h w) = ((padded 6 (P b.val ch) h w : ℝ) : EReal)
  rows : ∀ (i : Fin 128) (a : Fin 140), V c main_v143 (ix2 i a) = ((tapAt f i a : ℝ) : EReal)
  cols : ∀ (b : Fin 140) (j : Fin 128), V c main_v144 (ix2 b j) = ((tapAt f j b : ℝ) : EReal)
  range : ∀ d e : Fin 32, V c main_v289 (ix2 d e) = ((band fr d e : ℝ) : EReal)

variable {V c} {P : ℕ → Fin 3 → ℕ → ℕ → ℝ} {f fr : Fin 13 → ℝ}

/-- A colour of the block at an index: the load of one colour and its cut to the haloed tile. -/
theorem chan_apply (x : Vec Ideal S1x3x144x256 .f32) (a b : Fin 140) :
    k0_pay2 (View.ld x r0_0) (ix2 a b) = x (ix4 0 0 ⟨a, by omega⟩ ⟨b, by omega⟩)
    ∧ k0_pay3 (View.ld x r0_1) (ix2 a b) = x (ix4 0 1 ⟨a, by omega⟩ ⟨b, by omega⟩)
    ∧ k0_pay4 (View.ld x r0_2) (ix2 a b) = x (ix4 0 2 ⟨a, by omega⟩ ⟨b, by omega⟩) := by
  unfold k0_pay2 k0_pay3 k0_pay4
  refine ⟨?_, ?_, ?_⟩ <;> pointwise

theorem coords_lt (t : Fin cfg0.N) : (grid0.coords t 0).val < 2 ∧ (grid0.coords t 1).val < 4 ∧ (grid0.coords t 2).val < 4 :=
  ⟨(grid0.coords t 0).2, (grid0.coords t 1).2, (grid0.coords t 2).2⟩

/-- The block of a padded image at row `H` and column `W`. -/
def BlockOf (x : Vec Ideal S1x3x144x256 .f32) (Q : Fin 3 → ℕ → ℕ → ℝ) (H W : ℕ) : Prop :=
  ∀ (ch : Fin 3) (a b : Fin 140), x (ix4 0 ch ⟨a, by omega⟩ ⟨b, by omega⟩) = ((padded 6 (Q ch) (H + a) (W + b) : ℝ) : EReal)

/-- A grid point's image block is a block of the padded image. -/
theorem block_image (E : Entry V c P f fr) (t : Fin cfg0.N) :
    BlockOf (iblk0 V c 0 t) (P (grid0.coords t 0).val) ((grid0.coords t 1).val * 128) ((grid0.coords t 2).val * 128) := by
  intro ch a b
  obtain ⟨h0, h1, h2⟩ := coords_lt t
  exact (block0 V c t ch ⟨a, by omega⟩ ⟨b, by omega⟩ h0 (by simp only; omega) (by simp only; omega)).trans (E.img _ _ _ _)

/-- The luminance of a block. -/
theorem guide_block {x : Vec Ideal S1x3x144x256 .f32} {Q : Fin 3 → ℕ → ℕ → ℝ} {H W : ℕ} (hx : BlockOf x Q H W)
    (a b : Fin 140) : k0_pay5 (View.ld x r0_0) (View.ld x r0_1) (View.ld x r0_2) (ix2 a b)
      = ((padded 6 (yuv Q 0) (H + a) (W + b) : ℝ) : EReal) := by
  have e : k0_pay5 (View.ld x r0_0) (View.ld x r0_1) (View.ld x r0_2) (ix2 a b)
      = Ideal.ofBits .f32 (toYuv 0 0) * k0_pay2 (View.ld x r0_0) (ix2 a b)
        + Ideal.ofBits .f32 (toYuv 0 1) * k0_pay3 (View.ld x r0_1) (ix2 a b)
        + Ideal.ofBits .f32 (toYuv 0 2) * k0_pay4 (View.ld x r0_2) (ix2 a b) := rfl
  rw [e, (chan_apply _ a b).1, (chan_apply _ a b).2.1, (chan_apply _ a b).2.2, hx, hx, hx]
  unfold yuv
  simp only [padded_mix, ofBits_toYuv, EReal.coe_add, EReal.coe_mul]

/-- A chrominance of a block, cut to its tile. -/
theorem mix_block {x : Vec Ideal S1x3x144x256 .f32} {Q : Fin 3 → ℕ → ℕ → ℝ} {H W : ℕ} (hx : BlockOf x Q H W)
    (hH : H + 128 ≤ 512) (hW : W + 128 ≤ 512) (ch : Fin 3) (i j : Fin 128) :
    Ideal.ofBits .f32 (toYuv ch 0) * k0_pay167 (k0_pay2 (View.ld x r0_0)) (ix2 i j)
        + Ideal.ofBits .f32 (toYuv ch 1) * k0_pay168 (k0_pay3 (View.ld x r0_1)) (ix2 i j)
        + Ideal.ofBits .f32 (toYuv ch 2) * k0_pay169 (k0_pay4 (View.ld x r0_2)) (ix2 i j)
      = ((yuv Q ch (H + i) (W + j) : ℝ) : EReal) := by
  have e : ∀ X : FVec Ideal S140x140 .f32, extractStridedSlice S128x128 ![6, 6] X slices_S140x140_o6_6_S128x128 (ix2 i j)
      = X (ix2 ⟨6 + i, by omega⟩ ⟨6 + j, by omega⟩) := fun X => by
    refine congrArg X ?_
    funext a
    fin_cases a <;> rfl
  unfold k0_pay167 k0_pay168 k0_pay169
  rw [e, e, e, (chan_apply _ _ _).1, (chan_apply _ _ _).2.1, (chan_apply _ _ _).2.2, hx, hx, hx]
  have e2 : ∀ ch, padded 6 (Q ch) (H + (6 + i.val)) (W + (6 + j.val)) = Q ch (H + i) (W + j) := fun ch => by
    rw [show H + (6 + i.val) = 6 + (H + i) by omega, show W + (6 + j.val) = 6 + (W + j) by omega,
      padded_inside _ _ (by omega) (by omega)]
  simp only [e2]
  unfold yuv mix
  simp only [ofBits_toYuv, EReal.coe_add, EReal.coe_mul]

/-- The tile of a grid point is the smoothed luminance there. -/
theorem tile_apply (E : Entry V c P f fr) (t : Fin cfg0.N) (i j : Fin 128) :
    tile0 (grid0.coords t) (iblk0 V c 0 t) (iblk0 V c 1 t) (iblk0 V c 2 t) (iblk0 V c 3 t) (ix2 i j)
      = ((lum f fr (P (grid0.coords t 0).val) ((grid0.coords t 1).val * 128 + i) ((grid0.coords t 2).val * 128 + j) : ℝ)
        : EReal) := by
  obtain ⟨h0, h1, h2⟩ := coords_lt t
  have e9 : ∀ x : Vec Ideal S32x32 .f32, k0_pay9 (View.ld x r0_3) = x := fun x => by
    unfold k0_pay9; funext y; pointwise
  have e10 : ∀ x : Vec Ideal S128x140 .f32, k0_pay10 (View.ld x r0_4) = x := fun x => by
    unfold k0_pay10; funext y; pointwise
  have e11 : ∀ x : Vec Ideal S140x128 .f32, k0_pay11 (View.ld x r0_5) = x := fun x => by
    unfold k0_pay11; funext y; pointwise
  exact tileV_apply _ _ dots (T := 13) rfl rfl _ _ _ _ _ f fr _ _ _ _ (by omega) (by omega)
    (fun d e => (congrFun ((e9 _).trans (block3 V c t)) _).trans (E.range d e))
    (fun i a => (congrFun ((e10 _).trans (block1 V c t)) _).trans (E.rows i a))
    (fun b j => (congrFun ((e11 _).trans (block2 V c t)) _).trans (E.cols b j))
    (guide_block (block_image E t)) (guide_block (block_image E t)) (mask_apply _) i j

/-- The first result array: the smoothed luminance. -/
theorem lum_arr (E : Entry V c P f fr) :
    (dat0 V c).arrAt 4 cfg0.N = fun i : S2x512x512.Idx => ((lum f fr (P (i 0).val) (i 1).val (i 2).val : ℝ) : EReal) := by
  refine (dat0 V c).arrAt_eq_of_covers 4 _ (by decide +kernel) fun t hf y => ?_
  blk_simp
  rw [after0_4, out0_4_eq]
  frame_out
  have e : ∀ X : FVec Ideal S128x128 .f32, k0_pay166 X y = X (ix2 (y 1) (y 2)) := fun X => by
    unfold k0_pay166; pointwise
  refine (e _).trans ((tile_apply E t _ _).trans ?_)
  rw [(index_out t).1]
  rfl

/-- The second result array: the first chrominance. -/
theorem u_arr (E : Entry V c P f fr) :
    (dat0 V c).arrAt 5 cfg0.N = fun i : S2x512x512.Idx => ((yuv (P (i 0).val) 1 (i 1).val (i 2).val : ℝ) : EReal) := by
  refine (dat0 V c).arrAt_eq_of_covers 5 _ (by decide +kernel) fun t hf y => ?_
  obtain ⟨h0, h1, h2⟩ := coords_lt t
  blk_simp
  rw [after0_5]
  unfold out0_5
  frame_out
  have e : ∀ X Y Z : FVec Ideal S140x140 .f32, k0_pay170 X Y Z y
      = Ideal.ofBits .f32 (toYuv 1 0) * k0_pay167 X (ix2 (y 1) (y 2))
        + Ideal.ofBits .f32 (toYuv 1 1) * k0_pay168 Y (ix2 (y 1) (y 2))
        + Ideal.ofBits .f32 (toYuv 1 2) * k0_pay169 Z (ix2 (y 1) (y 2)) := fun X Y Z => by
    unfold k0_pay170; pointwise; rfl
  refine (e _ _ _).trans ((mix_block (block_image E t) (by omega) (by omega) 1 (y 1) (y 2)).trans ?_)
  rw [(index_out t).2.1]
  rfl

/-- The third result array: the second chrominance. -/
theorem v_arr (E : Entry V c P f fr) :
    (dat0 V c).arrAt 6 cfg0.N = fun i : S2x512x512.Idx => ((yuv (P (i 0).val) 2 (i 1).val (i 2).val : ℝ) : EReal) := by
  refine (dat0 V c).arrAt_eq_of_covers 6 _ (by decide +kernel) fun t hf y => ?_
  obtain ⟨h0, h1, h2⟩ := coords_lt t
  blk_simp
  rw [after0_6]
  unfold out0_6
  frame_out
  have e : ∀ X Y Z : FVec Ideal S140x140 .f32, k0_pay1 (k0_pay171 X Y Z) y
      = Ideal.ofBits .f32 (toYuv 2 0) * k0_pay167 X (ix2 (y 1) (y 2))
        + Ideal.ofBits .f32 (toYuv 2 1) * k0_pay168 Y (ix2 (y 1) (y 2))
        + Ideal.ofBits .f32 (toYuv 2 2) * k0_pay169 Z (ix2 (y 1) (y 2)) := fun X Y Z => by
    unfold k0_pay1 k0_pay171; pointwise; rfl
  refine (e _ _ _).trans ((mix_block (block_image E t) (by omega) (by omega) 2 (y 1) (y 2)).trans ?_)
  rw [(index_out t).2.2]
  rfl

end Cert.Proof.Region0

end
-- ==== Proof.Region1.lean ====
/- What the second stage's body leaves in its result window. -/
module

public import proofs.«01_k».proof.Proof.TileStep
public import proofs.«01_k».proof.Proof.Gen.KernelIdeal.Frame

@[expose] public section

set_option maxRecDepth 16384

noncomputable section

namespace Cert.Proof.Region1

open Idealize Idealize.ShloMosaic Cert.KernelIdeal Cert.KernelIdeal.Gen Cert.Proof.Model Cert.Proof.Tile
open scoped BigOperators

/-- The second stage's tile of a channel `v`, from its blocks. -/
def tile1 (i : grid1.Coords) (x0 v : FVec Ideal S188x188 .f32) (x3 : Vec Ideal S128x188 .f32)
    (x4 : Vec Ideal S188x128 .f32) (x5 : Vec Ideal S32x32 .f32) : FVec Ideal S128x128 .f32 :=
  tileV (n := 188) dot_S32x32_S32x128x128_S32x128x128_1_0_0_12_n_n dot_S128x188_S188x188_S128x188_1_0_0_1_n_n
    dot_S128x188_S188x128_S128x128_1_0_0_1_n_n 30 slices_S188x188_o30_30_S128x128
    (k1_pay6 (View.ld x5 r1_1)) (k1_pay7 (View.ld x3 r1_2)) (k1_pay8 (View.ld x4 r1_3)) x0 v (k1_pay5 i)

/-- One colour of the result: the three planes under the three coefficient words. -/
def mixV (a b c : BitVec 32) (y u v : FVec Ideal S128x128 .f32) : FVec Ideal S128x128 .f32 :=
  addf (addf (mulf (broadcast S128x128 (Scalar.ofBits .f32 a)) y) (mulf (broadcast S128x128 (Scalar.ofBits .f32 b)) u))
    (mulf (broadcast S128x128 (Scalar.ofBits .f32 c)) v)

/-- The three colours stacked. -/
def stack3 (a b c : FVec Ideal S128x128 .f32) : FVec Ideal S1x3x128x128 .f32 :=
  shapeCast S1x3x128x128 (concatenate S3x128x128 0 [⟨S1x128x128, shapeCast S1x128x128 a shapeCasts_S128x128_S1x128x128⟩,
    ⟨S1x128x128, shapeCast S1x128x128 b shapeCasts_S128x128_S1x128x128⟩,
    ⟨S1x128x128, shapeCast S1x128x128 c shapeCasts_S128x128_S1x128x128⟩]
    concatenates_S1x128x128_S1x128x128_S1x128x128_S3x128x128_d0) shapeCasts_S3x128x128_S1x3x128x128

/-- The three colours of the result from the three planes. -/
def colours (y u v : FVec Ideal S128x128 .f32) : FVec Ideal S1x3x128x128 .f32 :=
  stack3 (mixV 0x3F7FFFFF#32 0xB745A5A0#32 0x3F91E61A#32 y u v) (mixV 0x3F800021#32 0xBECA0F0D#32 0xBF14A1D3#32 y u v)
    (mixV 0x3F7FFEAB#32 0x40020E1F#32 0xB77D4BBE#32 y u v)

/-- The result window holds the three colours. -/
theorem out1_6_eq (i : grid1.Coords) (x0 x1 x2 : Vec Ideal S1x192x256 .f32) (x3 : Vec Ideal S128x188 .f32)
    (x4 : Vec Ideal S188x128 .f32) (x5 : Vec Ideal S32x32 .f32) :
    out1_6 i x0 x1 x2 x3 x4 x5 = View.canon [⟨r1_4, colours
      (extractStridedSlice S128x128 ![30, 30] (k1_pay2 (View.ld x0 r1_0)) slices_S188x188_o30_30_S128x128)
      (tile1 i (k1_pay2 (View.ld x0 r1_0)) (k1_pay3 (View.ld x1 r1_0)) x3 x4 x5)
      (tile1 i (k1_pay2 (View.ld x0 r1_0)) (k1_pay4 (View.ld x2 r1_0)) x3 x4 x5)⟩] := by
  chain_rfl

end Cert.Proof.Region1

end
-- ==== Proof.Region1Value.lean ====
/- The second stage's array after its grid: the three colours of the result. -/
module

public import proofs.«01_k».proof.Proof.Region1
public import proofs.«01_k».proof.Proof.Spec
public import Idealize.ShloMosaic.Lib.Pipeline.ValueKit

@[expose] public section

set_option maxRecDepth 16384

noncomputable section

namespace Cert.Proof.Region1

open Idealize Idealize.ShloMosaic Cert.KernelIdeal Cert.KernelIdeal.Gen Cert.Proof.Model Cert.Proof.Tile Cert.Proof.Spec
open Idealize.ShloMosaic.TcCoe
open scoped BigOperators

/-- The second stage's three contractions. -/
theorem dots : Dots 188 dot_S32x32_S32x128x128_S32x128x128_1_0_0_12_n_n dot_S128x188_S188x188_S128x188_1_0_0_1_n_n
    dot_S128x188_S188x128_S128x128_1_0_0_1_n_n where
  band a x d i j := by pointwise
  rows a x i b := by pointwise
  cols a x i j := by pointwise

/-- The mask's conditions on one axis at tile `t`: row or column `a` of the block lies inside the image. -/
theorem inside_word : ∀ (t : Fin 4) (a : Fin 188),
    IntOp.andi (IntOp.cmpi .sge (IntOp.addi (BitVec.ofNat 32 a) (Scalar.subi (Scalar.muli (BitVec.ofNat 32 t) 128#32) 30#32))
        0#32)
      (IntOp.cmpi .slt (IntOp.addi (BitVec.ofNat 32 a) (Scalar.subi (Scalar.muli (BitVec.ofNat 32 t) 128#32) 30#32)) 512#32)
    = BitVec.ofBool (decide (30 ≤ t.val * 128 + a.val ∧ t.val * 128 + a.val < 512 + 30)) := by
  decide +kernel

/-- The mask read at an index. -/
theorem mask_apply (i : grid1.Coords) (a b : Fin 188) :
    (k1_pay5 i : FVec Ideal S188x188 .f32) (ix2 a b)
      = ((padded 30 (fun _ _ => 1) ((i 1).val * 128 + a) ((i 2).val * 128 + b) : ℝ) : EReal) := by
  have e := inside_word (i 1) a
  have e' := inside_word (i 2) b
  unfold k1_pay5 padded
  pointwise
  rw [e, show ∀ x y z : BitVec 1, IntOp.andi (IntOp.andi x y) z = IntOp.andi x (IntOp.andi y z) from
    fun x y z => BitVec.and_assoc x y z, e']
  by_cases h : 30 ≤ (i 1).val * 128 + a.val ∧ (i 1).val * 128 + a.val < 512 + 30 <;>
  by_cases h' : 30 ≤ (i 2).val * 128 + b.val ∧ (i 2).val * 128 + b.val < 512 + 30 <;>
  simp [h, h', Scalar.select, IntOp.andi]

variable (V : (c : Dev nD) → (b : Ref sig .tc) → Buf (Elt Ideal) ((c : Thread nD τ).loc b)) (c : Dev nD)

/-- Where each window's block begins. -/
theorem index_in : ∀ t : Fin grid1.N,
    win1_0.index t = ![(grid1.coords t 0).val, (grid1.coords t 1).val * 128, (grid1.coords t 2).val * 128]
    ∧ win1_1.index t = ![(grid1.coords t 0).val, (grid1.coords t 1).val * 128, (grid1.coords t 2).val * 128]
    ∧ win1_2.index t = ![(grid1.coords t 0).val, (grid1.coords t 1).val * 128, (grid1.coords t 2).val * 128] := by
  decide +kernel

theorem index_const : ∀ t : Fin grid1.N, win1_3.index t = ![0, 0] ∧ win1_4.index t = ![0, 0] ∧ win1_5.index t = ![0, 0] := by
  decide +kernel

theorem index_out : ∀ t : Fin grid1.N,
    win1_6.index t = ![(grid1.coords t 0).val, 0, (grid1.coords t 1).val, (grid1.coords t 2).val] := by
  decide +kernel

/-- The block of a padded plane at row `H` and column `W`. -/
def BlockOf (x : Vec Ideal S1x192x256 .f32) (Q : ℕ → ℕ → ℝ) (H W : ℕ) : Prop :=
  ∀ a b : Fin 188, x (ix3 0 ⟨a, by omega⟩ ⟨b, by omega⟩) = ((padded 30 Q (H + a) (W + b) : ℝ) : EReal)

theorem coords_lt (t : Fin cfg1.N) : (grid1.coords t 0).val < 2 ∧ (grid1.coords t 1).val < 4 ∧ (grid1.coords t 2).val < 4 :=
  ⟨(grid1.coords t 0).2, (grid1.coords t 1).2, (grid1.coords t 2).2⟩

/-- What the second stage finds in its operands: three padded planes, the spatial bands and the range band. -/
structure Entry (L u v : ℕ → ℕ → ℕ → ℝ) (f : Fin 61 → ℝ) (fr : Fin 13 → ℝ) : Prop where
  lum : ∀ (b : Fin 2) (h : Fin 576) (w : Fin 640), V c main_v964 (ix3 b h w) = ((padded 30 (L b.val) h w : ℝ) : EReal)
  u : ∀ (b : Fin 2) (h : Fin 576) (w : Fin 640), V c main_v965 (ix3 b h w) = ((padded 30 (u b.val) h w : ℝ) : EReal)
  v : ∀ (b : Fin 2) (h : Fin 576) (w : Fin 640), V c main_v966 (ix3 b h w) = ((padded 30 (v b.val) h w : ℝ) : EReal)
  rows : ∀ (i : Fin 128) (a : Fin 188), V c main_v962 (ix2 i a) = ((tapAt f i a : ℝ) : EReal)
  cols : ∀ (b : Fin 188) (j : Fin 128), V c main_v963 (ix2 b j) = ((tapAt f j b : ℝ) : EReal)
  range : ∀ d e : Fin 32, V c main_v1110 (ix2 d e) = ((band fr d e : ℝ) : EReal)

variable {V c} {L u v : ℕ → ℕ → ℕ → ℝ} {f : Fin 61 → ℝ} {fr : Fin 13 → ℝ}

/-- The luminance block of a grid point. -/
theorem block0 (E : Entry V c L u v f fr) (t : Fin cfg1.N) :
    BlockOf (iblk1 V c 0 t) (L (grid1.coords t 0).val) ((grid1.coords t 1).val * 128) ((grid1.coords t 2).val * 128) := by
  intro a b
  obtain ⟨h0, h1, h2⟩ := coords_lt t
  refine Eq.trans ?_ (E.lum ⟨(grid1.coords t 0).val, h0⟩ ⟨(grid1.coords t 1).val * 128 + a, by omega⟩
    ⟨(grid1.coords t 2).val * 128 + b, by omega⟩)
  blk_simp [iblk1]
  refine congrArg (V c main_v964) (funext fun x => Fin.ext ?_)
  refine (Pipeline.Window.rect_emb_val_off win1_0 t _ _).trans ?_
  rw [(index_in t).1]
  fin_cases x <;> simp [ix3]

/-- The first chrominance's block of a grid point. -/
theorem block1 (E : Entry V c L u v f fr) (t : Fin cfg1.N) :
    BlockOf (iblk1 V c 1 t) (u (grid1.coords t 0).val) ((grid1.coords t 1).val * 128) ((grid1.coords t 2).val * 128) := by
  intro a b
  obtain ⟨h0, h1, h2⟩ := coords_lt t
  refine Eq.trans ?_ (E.u ⟨(grid1.coords t 0).val, h0⟩ ⟨(grid1.coords t 1).val * 128 + a, by omega⟩
    ⟨(grid1.coords t 2).val * 128 + b, by omega⟩)
  blk_simp [iblk1]
  refine congrArg (V c main_v965) (funext fun x => Fin.ext ?_)
  refine (Pipeline.Window.rect_emb_val_off win1_1 t _ _).trans ?_
  rw [(index_in t).2.1]
  fin_cases x <;> simp [ix3]

/-- The second chrominance's block of a grid point. -/
theorem block2 (E : Entry V c L u v f fr) (t : Fin cfg1.N) :
    BlockOf (iblk1 V c 2 t) (v (grid1.coords t 0).val) ((grid1.coords t 1).val * 128) ((grid1.coords t 2).val * 128) := by
  intro a b
  obtain ⟨h0, h1, h2⟩ := coords_lt t
  refine Eq.trans ?_ (E.v ⟨(grid1.coords t 0).val, h0⟩ ⟨(grid1.coords t 1).val * 128 + a, by omega⟩
    ⟨(grid1.coords t 2).val * 128 + b, by omega⟩)
  blk_simp [iblk1]
  refine congrArg (V c main_v966) (funext fun x => Fin.ext ?_)
  refine (Pipeline.Window.rect_emb_val_off win1_2 t _ _).trans ?_
  rw [(index_in t).2.2]
  fin_cases x <;> simp [ix3]

/-- The other three operands are whole arrays. -/
theorem block3 (t : Fin cfg1.N) : iblk1 V c 3 t = V c main_v962 := by
  funext y
  blk_simp [iblk1]
  refine congrArg (V c main_v962) (funext fun x => Fin.ext ?_)
  refine Pipeline.Window.rect_emb_val_of_index_zero win1_3 t x ?_ y
  rw [(index_const t).1]
  fin_cases x <;> rfl

theorem block4 (t : Fin cfg1.N) : iblk1 V c 4 t = V c main_v963 := by
  funext y
  blk_simp [iblk1]
  refine congrArg (V c main_v963) (funext fun x => Fin.ext ?_)
  refine Pipeline.Window.rect_emb_val_of_index_zero win1_4 t x ?_ y
  rw [(index_const t).2.1]
  fin_cases x <;> rfl

theorem block5 (t : Fin cfg1.N) : iblk1 V c 5 t = V c main_v1110 := by
  funext y
  blk_simp [iblk1]
  refine congrArg (V c main_v1110) (funext fun x => Fin.ext ?_)
  refine Pipeline.Window.rect_emb_val_of_index_zero win1_5 t x ?_ y
  rw [(index_const t).2.2]
  fin_cases x <;> rfl

/-- A load of a block and its cut to the haloed tile. -/
theorem cut_apply {x : Vec Ideal S1x192x256 .f32} {Q : ℕ → ℕ → ℝ} {H W : ℕ} (hx : BlockOf x Q H W) (a b : Fin 188) :
    k1_pay2 x (ix2 a b) = ((padded 30 Q (H + a) (W + b) : ℝ) : EReal) := by
  refine Eq.trans ?_ (hx a b)
  unfold k1_pay2
  pointwise

/-- The tile of a plane at a grid point is the plane smoothed under the luminance there. -/
theorem tile_apply (E : Entry V c L u v f fr) (t : Fin cfg1.N) {x : Vec Ideal S1x192x256 .f32} {Q : ℕ → ℕ → ℝ}
    (hx : BlockOf x Q ((grid1.coords t 1).val * 128) ((grid1.coords t 2).val * 128)) (i j : Fin 128) :
    tile1 (grid1.coords t) (k1_pay2 (iblk1 V c 0 t)) (k1_pay2 x)
        (iblk1 V c 3 t) (iblk1 V c 4 t) (iblk1 V c 5 t) (ix2 i j)
      = ((smooth 30 f fr (L (grid1.coords t 0).val) Q ((grid1.coords t 1).val * 128 + i)
          ((grid1.coords t 2).val * 128 + j) : ℝ) : EReal) := by
  obtain ⟨h0, h1, h2⟩ := coords_lt t
  have e6 : ∀ x : Vec Ideal S32x32 .f32, k1_pay6 (View.ld x r1_1) = x := fun x => by
    unfold k1_pay6; funext y; pointwise
  have e7 : ∀ x : Vec Ideal S128x188 .f32, k1_pay7 (View.ld x r1_2) = x := fun x => by
    unfold k1_pay7; funext y; pointwise
  have e8 : ∀ x : Vec Ideal S188x128 .f32, k1_pay8 (View.ld x r1_3) = x := fun x => by
    unfold k1_pay8; funext y; pointwise
  exact tileV_apply _ _ dots (T := 61) rfl rfl _ _ _ _ _ f fr _ _ _ _ (by omega) (by omega)
    (fun d e => (congrFun ((e6 _).trans (block5 t)) _).trans (E.range d e))
    (fun i a => (congrFun ((e7 _).trans (block3 t)) _).trans (E.rows i a))
    (fun b j => (congrFun ((e8 _).trans (block4 t)) _).trans (E.cols b j))
    (cut_apply (block0 E t)) (cut_apply hx) (mask_apply _) i j

/-- The three colours read at an index. -/
theorem colours_apply (y u v : FVec Ideal S128x128 .f32) (ch : Fin 3) (i j : Fin 128) :
    colours y u v (ix4 0 ch i j) = Ideal.ofBits .f32 (toRgb ch 0) * y (ix2 i j)
      + Ideal.ofBits .f32 (toRgb ch 1) * u (ix2 i j) + Ideal.ofBits .f32 (toRgb ch 2) * v (ix2 i j) := by
  unfold colours stack3 mixV
  fin_cases ch
  · pointwise; rfl
  · pointwise; rfl
  · pointwise; rfl

/-- A colour of three real planes is real. -/
theorem colour_coe (f : Fin 61 → ℝ) (fr : Fin 13 → ℝ) (L u v : ℕ → ℕ → ℝ) (ch : Fin 3) (H W : ℕ) {x y z : EReal}
    (hx : x = ((L H W : ℝ) : EReal)) (hy : y = ((smooth 30 f fr L u H W : ℝ) : EReal))
    (hz : z = ((smooth 30 f fr L v H W : ℝ) : EReal)) :
    Ideal.ofBits .f32 (toRgb ch 0) * x + Ideal.ofBits .f32 (toRgb ch 1) * y + Ideal.ofBits .f32 (toRgb ch 2) * z
      = ((colour f fr L u v ch H W : ℝ) : EReal) := by
  unfold colour mix
  simp only [ofBits_toRgb, hx, hy, hz, EReal.coe_add, EReal.coe_mul]

/-- The result array: the three colours. -/
theorem colour_arr (E : Entry V c L u v f fr) :
    (dat1 V c).arrAt 6 cfg1.N = fun i : S2x3x512x512.Idx =>
      ((colour f fr (L (i 0).val) (u (i 0).val) (v (i 0).val) (i 1) (i 2).val (i 3).val : ℝ) : EReal) := by
  refine (dat1 V c).arrAt_eq_of_covers 6 _ (by decide +kernel) fun t hf y => ?_
  obtain ⟨h0, h1, h2⟩ := coords_lt t
  blk_simp
  rw [after1_6, out1_6_eq]
  frame_out
  have hy0 : (y 0).val < 1 := (y 0).2
  have hy1 : (y 1).val < 3 := (y 1).2
  have hy : (y : S1x3x128x128.Idx) = ix4 (0 : Fin 1) (y 1) (y 2) (y 3) := by
    refine funext fun x => Fin.ext ?_
    fin_cases x
    · show (y 0).val = 0; omega
    all_goals rfl
  have e1 : ((View.whole main_v1111).slice (win1_6.rect t)).emb y 1 = (y 1 : Fin 3) := by
    refine Fin.ext ((Pipeline.Window.rect_emb_val_of_index_zero win1_6 t 1 ?_ y))
    rw [index_out t]
    rfl
  have e2 : ∀ X : FVec Ideal S188x188 .f32, extractStridedSlice S128x128 ![30, 30] X slices_S188x188_o30_30_S128x128
      (ix2 (y 2) (y 3)) = X (ix2 ⟨30 + (y 2).val, by have : (y 2).val < 128 := (y 2).2; omega⟩
        ⟨30 + (y 3).val, by have : (y 3).val < 128 := (y 3).2; omega⟩) := fun X => by
    refine congrArg X ?_
    funext a
    fin_cases a <;> rfl
  have b2 : (y 2).val < 128 := (y 2).2
  have b3 : (y 3).val < 128 := (y 3).2
  have e3 : k1_pay2 (iblk1 V c 0 t) (ix2 ⟨30 + (y 2).val, by omega⟩ ⟨30 + (y 3).val, by omega⟩)
      = ((L (grid1.coords t 0).val ((grid1.coords t 1).val * 128 + (y 2).val) ((grid1.coords t 2).val * 128 + (y 3).val) : ℝ)
        : EReal) := by
    refine (cut_apply (block0 E t) _ _).trans (congrArg _ ?_)
    rw [← padded_inside 30 (L (grid1.coords t 0).val) (h := (grid1.coords t 1).val * 128 + (y 2).val)
      (w := (grid1.coords t 2).val * 128 + (y 3).val) (by omega) (by omega)]
    congr 1 <;> simp only <;> omega
  refine (congrArg _ hy).trans ((colours_apply _ _ _ (y 1) (y 2) (y 3)).trans ?_)
  rw [e1, index_out t]
  exact colour_coe f fr _ _ _ (y 1) _ _ ((e2 _).trans e3) (tile_apply E t (block1 E t) (y 2) (y 3))
    (tile_apply E t (block2 E t) (y 2) (y 3))

end Cert.Proof.Region1

end
-- ==== Proof.HostBands.lean ====
/- The band matrices the host builds before each stage: what the straight lines of operations leave in their buffers, as
   one recursion over the taps, and its value at an index. -/
module

public import proofs.«01_k».proof.Proof.TileStep
public import proofs.«01_k».proof.Proof.Gen.KernelIdeal.Launch
public import Idealize.ShloMosaic.Lib.StableHlo.RunRead
public import Idealize.ShloMosaic.Lib.Pipeline.Regions

@[expose] public section

set_option maxRecDepth 16384

noncomputable section

namespace Cert.Proof.HostBands

open Idealize Idealize.ShloMosaic Cert.KernelIdeal Cert.KernelIdeal.Gen Cert.Proof.Model Cert.Proof.Tile
open scoped BigOperators

/-- One tap lies in the filter. -/
theorem slices_tap {T : ℕ} {j : ℕ} (h : j < T) : Shape.Slices ⟨1, ![T]⟩ ![j] S1 := by
  refine ⟨rfl, fun a => ?_⟩
  fin_cases a
  show j + 1 ≤ T
  omega

/-- The shifted diagonal matrices under the first `k` taps, summed; `off j` is the word of tap `j`'s diagonal. -/
def diagV {T : ℕ} {s : Shape} (hs : s.rank = 2) (hb : S_.BroadcastsInDim s ![]) (off : ℕ → BitVec 32)
    (f : FVec Ideal ⟨1, ![T]⟩ .f32) : (k : ℕ) → k ≤ T → FVec Ideal s .f32
  | 0, _ => broadcastInDim s ![] hb (constant S_ .f32 0x00000000#32)
  | k + 1, h => addf (diagV hs hb off f k (Nat.le_of_succ_le h))
      (mulf (broadcastInDim s ![] hb (shapeCast S_ (extractStridedSlice S1 ![k] f (slices_tap h)) shapeCasts_S1_S_))
        (uitofp .f32 (cmpi .eq (addi (iotaInDim s 32 ⟨0, by omega⟩) (broadcastInDim s ![] hb (constantI S_ 32 (off k))))
          (iotaInDim s 32 ⟨1, by omega⟩))))

set_option maxHeartbeats 4000000 in
/-- The first stage's row band. -/
theorem rows0 (V : Valuation τ sig (Elt Ideal)) :
    StableHlo.after (hostOps0 (F := Ideal)) V (Proc.devRef .tc main_v143)
      = diagV rfl bcast_S_S128x140 (fun k => BitVec.ofNat 32 k) (V (Proc.devRef .tc main_arg1)) 13 (le_refl _) := by
  after_reads_simp
  chain_rfl

set_option maxHeartbeats 4000000 in
/-- The first stage's column band: the transpose. -/
theorem cols0 (V : Valuation τ sig (Elt Ideal)) :
    StableHlo.after (hostOps0 (F := Ideal)) V (Proc.devRef .tc main_v144)
      = transpose S140x128 [1, 0] (diagV rfl bcast_S_S128x140 (fun k => BitVec.ofNat 32 k)
          (V (Proc.devRef .tc main_arg1)) 13 (le_refl _)) transposes_S128x140_S140x128_1_0 := by
  after_reads_simp
  chain_rfl

set_option maxHeartbeats 4000000 in
/-- The first stage's range band. -/
theorem range0 (V : Valuation τ sig (Elt Ideal)) :
    StableHlo.after (hostOps0_2 (F := Ideal)) V (Proc.devRef .tc main_v289)
      = diagV rfl bcast_S_S32x32 (fun k => BitVec.ofNat 32 (4294967290 + k)) (V (Proc.devRef .tc main_arg2)) 13
          (le_refl _) := by
  after_reads_simp
  chain_rfl

set_option maxHeartbeats 4000000 in
/-- The second stage's range band. -/
theorem range1 (V : Valuation τ sig (Elt Ideal)) :
    StableHlo.after (hostOps1_6 (F := Ideal)) V (Proc.devRef .tc main_v1110)
      = diagV rfl bcast_S_S32x32 (fun k => BitVec.ofNat 32 (4294967290 + k)) (V (Proc.devRef .tc main_arg4)) 13
          (le_refl _) := by
  after_reads_simp
  chain_rfl

end Cert.Proof.HostBands

end
-- ==== Proof.HostBandsColour.lean ====
/- The second stage's spatial bands: what the host's straight line leaves in their two buffers. -/
module

public import proofs.«01_k».proof.Proof.HostBands

@[expose] public section

set_option maxRecDepth 65536

noncomputable section

namespace Cert.Proof.HostBands

open Idealize Idealize.ShloMosaic Cert.KernelIdeal Cert.KernelIdeal.Gen

set_option maxHeartbeats 40000000 in
/-- The second stage's row band. -/
theorem rows1 (V : Valuation τ sig (Elt Ideal)) :
    StableHlo.after (hostOps1 (F := Ideal)) V (Proc.devRef .tc main_v962)
      = diagV rfl bcast_S_S128x188 (fun k => BitVec.ofNat 32 k) (V (Proc.devRef .tc main_arg3)) 61 (le_refl _) := by
  after_reads_simp
  chain_rfl

end Cert.Proof.HostBands

end
-- ==== Proof.HostBandsColourT.lean ====
/- The second stage's column band: what the host's straight line leaves in its buffer. -/
module

public import proofs.«01_k».proof.Proof.HostBands

@[expose] public section

set_option maxRecDepth 65536

noncomputable section

namespace Cert.Proof.HostBands

open Idealize Idealize.ShloMosaic Cert.KernelIdeal Cert.KernelIdeal.Gen

set_option maxHeartbeats 40000000 in
/-- The second stage's column band: the transpose. -/
theorem cols1 (V : Valuation τ sig (Elt Ideal)) :
    StableHlo.after (hostOps1 (F := Ideal)) V (Proc.devRef .tc main_v963)
      = transpose S188x128 [1, 0] (diagV rfl bcast_S_S128x188 (fun k => BitVec.ofNat 32 k)
          (V (Proc.devRef .tc main_arg3)) 61 (le_refl _)) transposes_S128x188_S188x128_1_0 := by
  after_reads_simp
  chain_rfl

end Cert.Proof.HostBands

end
-- ==== Proof.BandRead.lean ====
/- The band matrices read at an index, over the real numbers. -/
module

public import proofs.«01_k».proof.Proof.HostBands

@[expose] public section

set_option maxRecDepth 16384

noncomputable section

namespace Cert.Proof.HostBands

open Idealize Idealize.ShloMosaic Cert.KernelIdeal Cert.KernelIdeal.Gen Cert.Proof.Model Cert.Proof.Tile
open scoped BigOperators

/-- One tap's diagonal matrix read at an index. -/
theorem diag_step {T : ℕ} {s : Shape} (hs : s.rank = 2) (hb : S_.BroadcastsInDim s ![]) (off : BitVec 32)
    (f : FVec Ideal ⟨1, ![T]⟩ .f32) (k : ℕ) (h : k < T) (j : s.Idx) (x : ℝ) (hf : f (ix1 ⟨k, h⟩) = ((x : ℝ) : EReal)) :
    (mulf (broadcastInDim s ![] hb (shapeCast S_ (extractStridedSlice S1 ![k] f (slices_tap h)) shapeCasts_S1_S_))
        (uitofp .f32 (cmpi .eq (addi (iotaInDim s 32 ⟨0, by omega⟩) (broadcastInDim s ![] hb (constantI S_ 32 off)))
          (iotaInDim s 32 ⟨1, by omega⟩)))) j
      = ((x * (if BitVec.ofNat 32 (j ⟨0, by omega⟩).val + off = BitVec.ofNat 32 (j ⟨1, by omega⟩).val then 1 else 0) : ℝ)
        : EReal) := by
  rw [EReal.coe_mul, ← hf]
  have e2 : (if BitVec.ofNat 32 (j ⟨0, by omega⟩).val + off = BitVec.ofNat 32 (j ⟨1, by omega⟩).val then (1 : ℝ) else 0)
     = ((BitVec.ofBool (BitVec.ofNat 32 (j ⟨0, by omega⟩).val + off == BitVec.ofNat 32 (j ⟨1, by omega⟩).val)).toNat : ℝ) := by
    split_ifs with hh
    · rw [hh]; simp
    · rw [beq_eq_false_iff_ne.mpr hh]; simp
  rw [e2]
  pointwise
  refine congrArg₂ (· * ·) (congrArg f ?_) rfl
  funext a
  fin_cases a
  rfl

/-- The band matrix read at an index: the taps whose diagonals pass through it. -/
theorem diagV_apply {T : ℕ} {s : Shape} (hs : s.rank = 2) (hb : S_.BroadcastsInDim s ![]) (off : ℕ → BitVec 32)
    (f : FVec Ideal ⟨1, ![T]⟩ .f32) (fr : Fin T → ℝ) (hf : ∀ t, f (ix1 t) = ((fr t : ℝ) : EReal)) (j : s.Idx) :
    diagV hs hb off f T (le_refl _) j = ((∑ t : Fin T, fr t *
      (if BitVec.ofNat 32 (j ⟨0, by omega⟩).val + off t = BitVec.ofNat 32 (j ⟨1, by omega⟩).val then 1 else 0) : ℝ) : EReal) := by
  have key : ∀ (k : ℕ) (h : k ≤ T), diagV hs hb off f k h j = ((∑ t : Fin k, fr (Fin.castLE h t) *
      (if BitVec.ofNat 32 (j ⟨0, by omega⟩).val + off t = BitVec.ofNat 32 (j ⟨1, by omega⟩).val then 1 else 0) : ℝ)
        : EReal) := by
    intro k
    induction k with
    | zero =>
      intro h
      unfold diagV
      pointwise
      simp
    | succ k ih =>
      intro h
      unfold diagV
      rw [Fin.sum_univ_castSucc, EReal.coe_add]
      refine congrArg₂ (· + ·) (ih (Nat.le_of_succ_le h)) ?_
      exact diag_step hs hb (off k) f k h j _ (hf ⟨k, h⟩)
  exact key T (le_refl _)

/-- The spatial diagonals: tap `t` joins row `i` to column `i + t`. -/
theorem word_spatial {i t a : ℕ} (hi : i < 128) (ht : t < 61) (ha : a < 188) :
    BitVec.ofNat 32 i + BitVec.ofNat 32 t = BitVec.ofNat 32 a ↔ i + t = a := by
  rw [← BitVec.toNat_inj]
  simp only [BitVec.toNat_add, BitVec.toNat_ofNat]
  omega

/-- The range diagonals: tap `t` joins plane `d` to plane `d + t - 6`. -/
theorem word_range {d t e : ℕ} (hd : d < 32) (ht : t < 13) (he : e < 32) :
    BitVec.ofNat 32 d + BitVec.ofNat 32 (4294967290 + t) = BitVec.ofNat 32 e ↔ d + t = e + 6 := by
  rw [← BitVec.toNat_inj]
  simp only [BitVec.toNat_add, BitVec.toNat_ofNat]
  omega

/-- The range band read at an index. -/
theorem range_apply (f : FVec Ideal S13 .f32) (fr : Fin 13 → ℝ) (hf : ∀ t, f (ix1 t) = ((fr t : ℝ) : EReal))
    (d e : Fin 32) :
    (diagV rfl bcast_S_S32x32 (fun k => BitVec.ofNat 32 (4294967290 + k)) f 13 (le_refl _) : FVec Ideal S32x32 .f32)
      (ix2 d e) = ((band fr d e : ℝ) : EReal) := by
  rw [diagV_apply _ _ _ f fr hf]
  unfold band
  refine congrArg _ (Finset.sum_congr rfl fun t _ => congrArg (fr t * ·) ?_)
  exact if_congr (word_range d.2 t.2 e.2) rfl rfl

/-- The spatial row band read at an index. -/
theorem rows_apply {T n : ℕ} (hT : T ≤ 61) (hn : n ≤ 188) (hb : S_.BroadcastsInDim (Wide n) ![])
    (f : FVec Ideal ⟨1, ![T]⟩ .f32) (fr : Fin T → ℝ) (hf : ∀ t, f (ix1 t) = ((fr t : ℝ) : EReal)) (i : Fin 128) (a : Fin n) :
    (diagV rfl hb (fun k => BitVec.ofNat 32 k) f T (le_refl _) : FVec Ideal (Wide n) .f32) (ix2 i a)
      = ((tapAt fr i a : ℝ) : EReal) := by
  rw [diagV_apply _ _ _ f fr hf]
  unfold tapAt
  refine congrArg _ (Finset.sum_congr rfl fun t _ => congrArg (fr t * ·) ?_)
  exact if_congr (word_spatial (a := a.val) i.2 (Nat.lt_of_lt_of_le t.2 hT) (Nat.lt_of_lt_of_le a.2 hn)) rfl rfl

end Cert.Proof.HostBands

end
-- ==== Proof.KernelValue.lean ====
/- The kernel's result array, from the launch contents: the padded planes, what each stage finds, what it leaves. -/
module

public import proofs.«01_k».proof.Proof.Region0Value
public import proofs.«01_k».proof.Proof.Region1Value
public import proofs.«01_k».proof.Proof.HostBandsColour
public import proofs.«01_k».proof.Proof.HostBandsColourT
public import proofs.«01_k».proof.Proof.BandRead
public import proofs.«01_k».proof.Proof.Gen.KernelIdeal.Frame
public import Idealize.ShloMosaic.Lib.KernelVsHost

@[expose] public section

set_option maxRecDepth 16384

noncomputable section

namespace Cert.Proof.KernelValue

open Idealize Idealize.ShloMosaic Cert.KernelIdeal Cert.KernelIdeal.Gen Cert.Proof.Model Cert.Proof.Tile Cert.Proof.Spec
open Cert.Proof.HostBands Idealize.ShloMosaic.TcCoe
open scoped BigOperators

section Pads
set_option maxHeartbeats 4000000

/-- The padding constant of the image. -/
theorem zero0 (V : Valuation τ sig (Elt Ideal)) :
    StableHlo.after (hostOps0 (F := Ideal)) V (Proc.devRef .tc main_c_12) = constantI S_ 32 0#32 := by
  after_reads_simp

/-- The padding constant of the luminance. -/
theorem zero1 (V : Valuation τ sig (Elt Ideal)) :
    StableHlo.after (hostOps1 (F := Ideal)) V (Proc.devRef .tc main_c_89) = constantI S_ 32 0#32 := by
  after_reads_simp

/-- The padding constant of the first chrominance. -/
theorem zero2 (V : Valuation τ sig (Elt Ideal)) :
    StableHlo.after (hostOps1_2 (F := Ideal)) V (Proc.devRef .tc main_c_90) = constantI S_ 32 0#32 := by
  after_reads_simp

/-- The padding constant of the second chrominance. -/
theorem zero3 (V : Valuation τ sig (Elt Ideal)) :
    StableHlo.after (hostOps1_4 (F := Ideal)) V (Proc.devRef .tc main_c_91) = constantI S_ 32 0#32 := by
  after_reads_simp

/-- The padded image. -/
theorem pad0 (V : Valuation τ sig (Elt Ideal)) :
    StableHlo.after (hostOps0_1 (F := Ideal)) V (Proc.devRef .tc main_v145)
      = pad S2x3x528x640 ![0, 0, 6, 6] ![0, 0, 10, 122] ![0, 0, 0, 0] (V (Proc.devRef .tc main_arg0) : FVec Ideal S2x3x512x512 .f32)
          (sitofp .f32 (V (Proc.devRef .tc main_c_12)) : FVec Ideal S_ .f32)
          pads_S2x3x512x512_S2x3x528x640_000_000_6100_61220 h_S_ := by
  after_reads_simp
  chain_rfl

/-- The padded luminance. -/
theorem pad1 (V : Valuation τ sig (Elt Ideal)) :
    StableHlo.after (hostOps1_1 (F := Ideal)) V (Proc.devRef .tc main_v964)
      = pad S2x576x640 ![0, 30, 30] ![0, 34, 98] ![0, 0, 0] (V (Proc.devRef .tc main_v290_0) : FVec Ideal S2x512x512 .f32)
          (sitofp .f32 (V (Proc.devRef .tc main_c_89)) : FVec Ideal S_ .f32) pads_S2x512x512_S2x576x640_000_30340_30980 h_S_ := by
  after_reads_simp
  chain_rfl

/-- The padded first chrominance. -/
theorem pad2 (V : Valuation τ sig (Elt Ideal)) :
    StableHlo.after (hostOps1_3 (F := Ideal)) V (Proc.devRef .tc main_v965)
      = pad S2x576x640 ![0, 30, 30] ![0, 34, 98] ![0, 0, 0] (V (Proc.devRef .tc main_v290_1) : FVec Ideal S2x512x512 .f32)
          (sitofp .f32 (V (Proc.devRef .tc main_c_90)) : FVec Ideal S_ .f32) pads_S2x512x512_S2x576x640_000_30340_30980 h_S_ := by
  after_reads_simp
  chain_rfl

/-- The padded second chrominance. -/
theorem pad3 (V : Valuation τ sig (Elt Ideal)) :
    StableHlo.after (hostOps1_5 (F := Ideal)) V (Proc.devRef .tc main_v966)
      = pad S2x576x640 ![0, 30, 30] ![0, 34, 98] ![0, 0, 0] (V (Proc.devRef .tc main_v290_2) : FVec Ideal S2x512x512 .f32)
          (sitofp .f32 (V (Proc.devRef .tc main_c_91)) : FVec Ideal S_ .f32) pads_S2x512x512_S2x576x640_000_30340_30980 h_S_ := by
  after_reads_simp
  chain_rfl

end Pads

/-- The padding value is zero. -/
theorem pad_zero (i : S_.Idx) : (sitofp .f32 (constantI S_ 32 0#32) : FVec Ideal S_ .f32) i = ((0 : ℝ) : EReal) := by
  show (((0#32 : BitVec 32).toInt : ℝ) : EReal) = _
  simp

/-- The padded image read at an index. -/
theorem pad_image (x : FVec Ideal S2x3x512x512 .f32) (P : ℕ → Fin 3 → ℕ → ℕ → ℝ)
    (hx : ∀ (b : Fin 2) (ch : Fin 3) (h w : Fin 512), x (ix4 b ch h w) = ((P b.val ch h w : ℝ) : EReal))
    (b : Fin 2) (ch : Fin 3) (h : Fin 528) (w : Fin 640) :
    pad S2x3x528x640 ![0, 0, 6, 6] ![0, 0, 10, 122] ![0, 0, 0, 0] x (sitofp .f32 (constantI S_ 32 0#32) : FVec Ideal S_ .f32)
          pads_S2x3x512x512_S2x3x528x640_000_000_6100_61220 h_S_ (ix4 b ch h w)
      = ((padded 6 (P b.val ch) h w : ℝ) : EReal) := by
  unfold padded
  split_ifs with hin
  · rw [pad_apply_of_inside _ _ _ x _ _ _ _ (ix4 b ch ⟨h.val - 6, by omega⟩ ⟨w.val - 6, by omega⟩)]
    · exact hx _ _ _ _
    · intro a
      fin_cases a
      · show b.val = 0 + b.val * 1
        omega
      · show ch.val = 0 + ch.val * 1
        omega
      · show h.val = 6 + (h.val - 6) * 1
        omega
      · show w.val = 6 + (w.val - 6) * 1
        omega
  · by_cases hh : 6 ≤ h.val ∧ h.val < 512 + 6
    · rw [pad_apply_of_not_inside _ _ _ x _ _ _ _ (3 : Fin 4)]
      · exact pad_zero _
      · show ¬ (6 ≤ w.val ∧ (w.val - 6) % 1 = 0 ∧ (w.val - 6) / 1 < 512)
        omega
    · rw [pad_apply_of_not_inside _ _ _ x _ _ _ _ (2 : Fin 4)]
      · exact pad_zero _
      · show ¬ (6 ≤ h.val ∧ (h.val - 6) % 1 = 0 ∧ (h.val - 6) / 1 < 512)
        omega

/-- A padded plane read at an index. -/
theorem pad_plane (x : FVec Ideal S2x512x512 .f32) (P : ℕ → ℕ → ℕ → ℝ)
    (hx : x = fun i => ((P (i 0).val (i 1).val (i 2).val : ℝ) : EReal))
    (b : Fin 2) (h : Fin 576) (w : Fin 640) :
    pad S2x576x640 ![0, 30, 30] ![0, 34, 98] ![0, 0, 0] x (sitofp .f32 (constantI S_ 32 0#32) : FVec Ideal S_ .f32)
          pads_S2x512x512_S2x576x640_000_30340_30980 h_S_ (ix3 b h w)
      = ((padded 30 (P b.val) h w : ℝ) : EReal) := by
  unfold padded
  split_ifs with hin
  · rw [pad_apply_of_inside _ _ _ x _ _ _ _ (ix3 b ⟨h.val - 30, by omega⟩ ⟨w.val - 30, by omega⟩)]
    · rw [hx]
      rfl
    · intro a
      fin_cases a
      · show b.val = 0 + b.val * 1
        omega
      · show h.val = 30 + (h.val - 30) * 1
        omega
      · show w.val = 30 + (w.val - 30) * 1
        omega
  · by_cases hh : 30 ≤ h.val ∧ h.val < 512 + 30
    · rw [pad_apply_of_not_inside _ _ _ x _ _ _ _ (2 : Fin 3)]
      · exact pad_zero _
      · show ¬ (30 ≤ w.val ∧ (w.val - 30) % 1 = 0 ∧ (w.val - 30) / 1 < 512)
        omega
    · rw [pad_apply_of_not_inside _ _ _ x _ _ _ _ (1 : Fin 3)]
      · exact pad_zero _
      · show ¬ (30 ≤ h.val ∧ (h.val - 30) % 1 = 0 ∧ (h.val - 30) / 1 < 512)
        omega

/-- The launch contents of the arguments are real: the image `P` and the four filters. -/
structure Args (m : (ℓ : Loc nD τ sig) → Buf (Elt Ideal) ℓ) (c : Dev nD) (P : ℕ → Fin 3 → ℕ → ℕ → ℝ)
    (fs fr : Fin 13 → ℝ) (gs : Fin 61 → ℝ) (gr : Fin 13 → ℝ) : Prop where
  img : ∀ (b : Fin 2) (ch : Fin 3) (h w : Fin 512),
    m ((c : Thread nD τ).loc main_arg0) (ix4 b ch h w) = ((P b.val ch h w : ℝ) : EReal)
  fs : ∀ t, m ((c : Thread nD τ).loc main_arg1) (ix1 t) = ((fs t : ℝ) : EReal)
  fr : ∀ t, m ((c : Thread nD τ).loc main_arg2) (ix1 t) = ((fr t : ℝ) : EReal)
  gs : ∀ t, m ((c : Thread nD τ).loc main_arg3) (ix1 t) = ((gs t : ℝ) : EReal)
  gr : ∀ t, m ((c : Thread nD τ).loc main_arg4) (ix1 t) = ((gr t : ℝ) : EReal)

variable {m : (ℓ : Loc nD τ sig) → Buf (Elt Ideal) ℓ} (ρ : Dev nD → PrngReg) {c : Dev nD}
  {P : ℕ → Fin 3 → ℕ → ℕ → ℝ} {fs fr : Fin 13 → ℝ} {gs : Fin 61 → ℝ} {gr : Fin 13 → ℝ}

/-- What the first stage finds. -/
theorem entry0 (A : Args m c P fs fr gs gr) : Region0.Entry (V3 m ρ) c P fs fr where
  img b ch h w := by
    have e : V3 m ρ c main_v145 = _ :=
      (W3_of m ρ c main_v145 (by decide)).trans (pad0 (W1 m ρ c))
    rw [e, show W1 m ρ c (Proc.devRef .tc main_c_12) = _ from zero0 (W0 m ρ c)]
    refine pad_image _ P (fun b ch h w => ?_) b ch h w
    rw [W1_args m ρ c main_arg0 (by decide)]
    exact A.img b ch h w
  rows i a := by
    have e : V3 m ρ c main_v143 = _ :=
      (W3_of m ρ c main_v143 (by decide)).trans ((W2_of m ρ c main_v143 (by decide)).trans (rows0 (W0 m ρ c)))
    rw [e]
    exact rows_apply (by omega) (by omega) _ _ fs A.fs i a
  cols b j := by
    have e : V3 m ρ c main_v144 = _ :=
      (W3_of m ρ c main_v144 (by decide)).trans ((W2_of m ρ c main_v144 (by decide)).trans (cols0 (W0 m ρ c)))
    rw [e]
    refine Eq.trans ?_ (rows_apply (n := 140) (by omega) (by omega) bcast_S_S128x140 _ fs A.fs j b)
    pointwise
  range d e := by
    have h : V3 m ρ c main_v289 = _ := range0 (W2 m ρ c)
    rw [h]
    refine range_apply _ fr (fun t => ?_) d e
    rw [W2_args m ρ c main_arg2 (by decide)]
    exact A.fr t

/-- What the second stage finds. -/
theorem entry1 (A : Args m c P fs fr gs gr) :
    Region1.Entry (V11 m ρ) c (fun b => lum fs fr (P b)) (fun b => yuv (P b) 1) (fun b => yuv (P b) 2) gs gr where
  lum b h w := by
    have e : V11 m ρ c main_v964 = _ :=
      (W11_of m ρ c main_v964 (by decide)).trans ((W10_of m ρ c main_v964 (by decide)).trans
        ((W9_of m ρ c main_v964 (by decide)).trans ((W8_of m ρ c main_v964 (by decide)).trans
          ((W7_of m ρ c main_v964 (by decide)).trans (pad1 (W5 m ρ c))))))
    rw [e, show W5 m ρ c (Proc.devRef .tc main_c_89) = _ from zero1 (W4 m ρ c)]
    refine pad_plane _ (fun b => Spec.lum fs fr (P b)) ?_ b h w
    exact (W5_of m ρ c main_v290_0 (by decide)).trans ((W4_arr m ρ c 4).trans (Region0.lum_arr (entry0 ρ A)))
  u b h w := by
    have e : V11 m ρ c main_v965 = _ :=
      (W11_of m ρ c main_v965 (by decide)).trans ((W10_of m ρ c main_v965 (by decide)).trans
        ((W9_of m ρ c main_v965 (by decide)).trans (pad2 (W7 m ρ c))))
    rw [e, show W7 m ρ c (Proc.devRef .tc main_c_90) = _ from zero2 (W6 m ρ c)]
    refine pad_plane _ (fun b => yuv (P b) 1) ?_ b h w
    exact (W7_of m ρ c main_v290_1 (by decide)).trans ((W6_of m ρ c main_v290_1 (by decide)).trans
      ((W5_of m ρ c main_v290_1 (by decide)).trans ((W4_arr m ρ c 5).trans (Region0.u_arr (entry0 ρ A)))))
  v b h w := by
    have e : V11 m ρ c main_v966 = _ :=
      (W11_of m ρ c main_v966 (by decide)).trans (pad3 (W9 m ρ c))
    rw [e, show W9 m ρ c (Proc.devRef .tc main_c_91) = _ from zero3 (W8 m ρ c)]
    refine pad_plane _ (fun b => yuv (P b) 2) ?_ b h w
    exact (W9_of m ρ c main_v290_2 (by decide)).trans ((W8_of m ρ c main_v290_2 (by decide)).trans
      ((W7_of m ρ c main_v290_2 (by decide)).trans ((W6_of m ρ c main_v290_2 (by decide)).trans
        ((W5_of m ρ c main_v290_2 (by decide)).trans ((W4_arr m ρ c 6).trans (Region0.v_arr (entry0 ρ A)))))))
  rows i a := by
    have e : V11 m ρ c main_v962 = _ :=
      (W11_of m ρ c main_v962 (by decide)).trans ((W10_of m ρ c main_v962 (by decide)).trans
        ((W9_of m ρ c main_v962 (by decide)).trans ((W8_of m ρ c main_v962 (by decide)).trans
          ((W7_of m ρ c main_v962 (by decide)).trans ((W6_of m ρ c main_v962 (by decide)).trans (rows1 (W4 m ρ c)))))))
    rw [e]
    refine rows_apply (by omega) (by omega) _ _ gs (fun t => ?_) i a
    rw [W4_args m ρ c main_arg3 (by decide)]
    exact A.gs t
  cols b j := by
    have e : V11 m ρ c main_v963 = _ :=
      (W11_of m ρ c main_v963 (by decide)).trans ((W10_of m ρ c main_v963 (by decide)).trans
        ((W9_of m ρ c main_v963 (by decide)).trans ((W8_of m ρ c main_v963 (by decide)).trans
          ((W7_of m ρ c main_v963 (by decide)).trans ((W6_of m ρ c main_v963 (by decide)).trans (cols1 (W4 m ρ c)))))))
    rw [e]
    refine Eq.trans ?_ (rows_apply (n := 188) (by omega) (by omega) bcast_S_S128x188
      (W4 m ρ c (Proc.devRef .tc main_arg3)) gs (fun t => ?_) j b)
    · pointwise
    · rw [W4_args m ρ c main_arg3 (by decide)]
      exact A.gs t
  range d e := by
    have h : V11 m ρ c main_v1110 = _ := range1 (W10 m ρ c)
    rw [h]
    refine range_apply _ gr (fun t => ?_) d e
    rw [W10_args m ρ c main_arg4 (by decide)]
    exact A.gr t

/-- The result array at the end of a run. -/
theorem result_arr (A : Args m c P fs fr gs gr) :
    W12 m ρ c (Proc.devRef .tc main_v1111) = fun i : S2x3x512x512.Idx =>
      ((result fs fr gs gr (P (i 0).val) (i 1) (i 2).val (i 3).val : ℝ) : EReal) :=
  (W12_arr m ρ c 6).trans (Region1.colour_arr (entry1 ρ A))

end Cert.Proof.KernelValue

end
-- ==== Proof.GridRead.lean ====
/- The reference's blur of the grid along one axis, read at an index: the padded grid, its shifted windows, the sum of the
   windows under the taps. -/
module

public import proofs.«01_k».proof.Proof.Spec
public import proofs.«01_k».proof.Proof.Gen.ReferenceIdeal.Run
public import Idealize.ShloMosaic.Lib.KernelVsHost

@[expose] public section

set_option maxRecDepth 16384

noncomputable section

namespace Cert.Proof.GridRead

open Idealize Idealize.ShloMosaic Cert.ReferenceIdeal Cert.ReferenceIdeal.Gen Cert.Proof.Model
open scoped BigOperators

/-- A grid of `C` channels. -/
abbrev Grid (C : ℕ) : Shape := ⟨5, ![2, 512, 512, 32, C]⟩

/-- The `T` shifted windows of a padded grid. -/
abbrev Windows (T C : ℕ) : Shape := ⟨6, ![T, 2, 512, 512, 32, C]⟩

/-- The dimension numbers of the gather of whole windows: one start index of five components per tap. -/
abbrev windowDims (T C : ℕ) (s : Fin 5 → ℕ)
    (wf : GatherDims.WF ⟨5, s⟩ ⟨2, ![T, 5]⟩ (Windows T C) [1, 2, 3, 4, 5] [] [] [0, 1, 2, 3, 4] [] 1 ![2, 512, 512, 32, C]) :
    GatherDims ⟨5, s⟩ ⟨2, ![T, 5]⟩ (Windows T C) where
  offsetDims := [1, 2, 3, 4, 5]
  collapsedSliceDims := []
  operandBatchingDims := []
  startIndicesBatchingDims := []
  startIndexMap := [0, 1, 2, 3, 4]
  indexVectorDim := 1
  sliceSizes := ![2, 512, 512, 32, C]
  wf := wf

/-- The gathered windows read at an index: the operand at the tap's clamped start plus the offset inside the window. -/
theorem gather_window_val (T C : ℕ) (s : Fin 5 → ℕ)
    (wf : GatherDims.WF ⟨5, s⟩ ⟨2, ![T, 5]⟩ (Windows T C) [1, 2, 3, 4, 5] [] [] [0, 1, 2, 3, 4] [] 1 ![2, 512, 512, 32, C])
    (idx : IVec ⟨2, ![T, 5]⟩ 32) (j : Fin T) (o : (Grid C).Idx) (a : Fin 5) :
    ((windowDims T C s wf).operandIdx (ix6 j (o 0) (o 1) (o 2) (o 3) (o 4)) idx a).val
      = min (idx (ix2 j a)).toInt.toNat (s a - (Grid C).size a) + (o a).val := by
  show (windowDims T C s wf).start _ idx a + (windowDims T C s wf).batchCoord _ a + (windowDims T C s wf).offCoord _ a = _
  rw [GatherDims.batchCoord_eq_zero _ _ _ List.not_mem_nil, Nat.add_zero]
  have hm : a ∈ (windowDims T C s wf).startIndexMap := by
    show a ∈ ([0, 1, 2, 3, 4] : List (Fin 5))
    fin_cases a <;> decide
  have hk : a ∈ (windowDims T C s wf).sKept :=
    (GatherDims.mem_sKept _ _).2 ⟨List.not_mem_nil, List.not_mem_nil⟩
  unfold GatherDims.start GatherDims.offCoord
  rw [dif_pos hm, dif_pos hk]
  have hsi : (windowDims T C s wf).siIdx (ix6 j (o 0) (o 1) (o 2) (o 3) (o 4))
      ⟨List.idxOf a (windowDims T C s wf).startIndexMap, List.idxOf_lt_length_iff.2 hm⟩ = ix2 j a := by
    funext b
    refine Fin.ext ?_
    match b with
    | ⟨0, _⟩ => rfl
    | ⟨1, _⟩ => fin_cases a <;> rfl
  rw [hsi]
  congr 1
  fin_cases a <;> rfl

/-- A small word read as a signed integer. -/
theorem toInt_small {n : ℕ} (h : n < 2147483648) : (BitVec.ofNat 32 n).toInt.toNat = n := by
  rw [BitVec.toInt_eq_toNat_of_lt (by rw [BitVec.toNat_ofNat]; omega), BitVec.toNat_ofNat]
  omega

/-- The padding and the windows of one axis `a`: `r` zeros on either side, and window `j` starting `j` along the axis. -/
structure Along (T C r : ℕ) (s lo hi interior : Fin 5 → ℕ) (idx : IVec ⟨2, ![T, 5]⟩ 32) (a : Fin 5) : Prop where
  taps : T ≤ 2 * r + 1 ∧ r < 1000
  size : ∀ b, s b = (Grid C).size b + if b = a then 2 * r else 0
  lo : ∀ b, lo b = if b = a then r else 0
  interior : ∀ b, interior b = 0
  start : ∀ (j : Fin T) (b : Fin 5), idx (ix2 j b) = BitVec.ofNat 32 (if b = a then j.val else 0)

variable {T C r : ℕ} {s lo hi interior : Fin 5 → ℕ} {idx : IVec ⟨2, ![T, 5]⟩ 32} {a : Fin 5} {u : Shape}

/-- The place of window `j`'s entry `o` in the padded grid. -/
theorem Along.place (A : Along T C r s lo hi interior idx a)
    (wf : GatherDims.WF ⟨5, s⟩ ⟨2, ![T, 5]⟩ (Windows T C) [1, 2, 3, 4, 5] [] [] [0, 1, 2, 3, 4] [] 1 ![2, 512, 512, 32, C])
    (j : Fin T) (o : (Grid C).Idx) (b : Fin 5) :
    ((windowDims T C s wf).operandIdx (ix6 j (o 0) (o 1) (o 2) (o 3) (o 4)) idx b).val
      = (if b = a then j.val else 0) + (o b).val := by
  have hj := j.2
  have ht := A.taps
  rw [gather_window_val, A.start, A.size]
  split_ifs
  · rw [toInt_small (by omega)]
    omega
  · rw [toInt_small (by omega)]
    omega

/-- A window's entry that falls inside the grid is the grid there. -/
theorem Along.inside (A : Along T C r s lo hi interior idx a)
    (wf : GatherDims.WF ⟨5, s⟩ ⟨2, ![T, 5]⟩ (Windows T C) [1, 2, 3, 4, 5] [] [] [0, 1, 2, 3, 4] [] 1 ![2, 512, 512, 32, C])
    (x : FVec Ideal (Grid C) .f32) (v : FVec Ideal u .f32) (hp : (Grid C).Pads lo hi interior ⟨5, s⟩) (hu : 0 < u.numel)
    (j : Fin T) (o k : (Grid C).Idx)
    (hk : ∀ b, (k b).val + (if b = a then r else 0) = (if b = a then j.val else 0) + (o b).val) :
    Host.gather (windowDims T C s wf) (pad ⟨5, s⟩ lo hi interior x v hp hu) idx (ix6 j (o 0) (o 1) (o 2) (o 3) (o 4))
      = x k := by
  unfold Host.gather
  refine pad_apply_of_inside _ _ _ x _ _ _ _ k fun b => ?_
  refine (A.place wf j o b).trans ?_
  rw [A.lo, A.interior, ← hk b]
  omega

/-- A window's entry that falls outside the grid is the padding value. -/
theorem Along.outside (A : Along T C r s lo hi interior idx a)
    (wf : GatherDims.WF ⟨5, s⟩ ⟨2, ![T, 5]⟩ (Windows T C) [1, 2, 3, 4, 5] [] [] [0, 1, 2, 3, 4] [] 1 ![2, 512, 512, 32, C])
    (x : FVec Ideal (Grid C) .f32) (v : FVec Ideal u .f32) (hp : (Grid C).Pads lo hi interior ⟨5, s⟩) (hu : 0 < u.numel)
    (j : Fin T) (o : (Grid C).Idx) (hk : ¬ (r ≤ (o a).val + j.val ∧ (o a).val + j.val < (Grid C).size a + r)) :
    Host.gather (windowDims T C s wf) (pad ⟨5, s⟩ lo hi interior x v hp hu) idx (ix6 j (o 0) (o 1) (o 2) (o 3) (o 4))
      = v (Shape.Idx.first hu) := by
  unfold Host.gather
  refine pad_apply_of_not_inside _ _ _ x _ _ _ _ a ?_
  have e := A.place wf j o a
  rw [if_pos rfl] at e
  have e' : ((windowDims T C s wf).operandIdx (ix6 j (o 0) (o 1) (o 2) (o 3) (o 4)) idx (a.cast hp.1)).val
      = j.val + (o a).val := e
  rw [e', A.lo, A.interior, if_pos rfl]
  intro ⟨h1, _, h2⟩
  have h3 : (j.val + (o a).val - r) / 1 < (Grid C).size a := h2
  rw [Nat.div_one] at h3
  exact hk ⟨by omega, by omega⟩

/-- A blurred grid is the taps' sum of the windows. -/
def Blurs (T C : ℕ) (d : DotDims ⟨1, ![T]⟩ (Windows T C) (Grid C)) : Prop :=
  ∀ (f : FVec Ideal ⟨1, ![T]⟩ .f32) (x : FVec Ideal (Windows T C) .f32) (b : Fin 2) (h w : Fin 512) (e : Fin 32) (c : Fin C),
    (Host.dotGeneral d none f x : FVec Ideal (Grid C) .f32) (ix5 b h w e c) = ∑ j : Fin T, f (ix1 j) * x (ix6 j b h w e c)

/-- The grid holds the real numbers `G`. -/
def Holds (x : FVec Ideal (Grid C) .f32) (G : ℕ → ℕ → ℕ → ℕ → ℕ → ℝ) : Prop :=
  ∀ (b : Fin 2) (h w : Fin 512) (e : Fin 32) (c : Fin C), x (ix5 b h w e c) = ((G b c h w e : ℝ) : EReal)

section Blur
variable (wf : GatherDims.WF ⟨5, s⟩ ⟨2, ![T, 5]⟩ (Windows T C) [1, 2, 3, 4, 5] [] [] [0, 1, 2, 3, 4] [] 1 ![2, 512, 512, 32, C])
  {d : DotDims ⟨1, ![T]⟩ (Windows T C) (Grid C)} (D : Blurs T C d)
  {x : FVec Ideal (Grid C) .f32} {G : ℕ → ℕ → ℕ → ℕ → ℕ → ℝ} (X : Holds x G)
  {v : FVec Ideal u .f32} (hv : ∀ i, v i = ((0 : ℝ) : EReal)) (hp : (Grid C).Pads lo hi interior ⟨5, s⟩) (hu : 0 < u.numel)
  {f : FVec Ideal ⟨1, ![T]⟩ .f32} {fr : Fin T → ℝ} (hf : ∀ t, f (ix1 t) = ((fr t : ℝ) : EReal))
include D X hv hf

/-- The blur along the rows. -/
theorem blur_rows (A : Along T C r s lo hi interior idx 1) :
    Holds (Host.dotGeneral d none f (Host.gather (windowDims T C s wf) (pad ⟨5, s⟩ lo hi interior x v hp hu) idx))
      (fun b c h w e => rows r fr (fun h w => G b c h w e) h w) := by
  intro b h w e c
  rw [D]
  unfold rows
  rw [coe_sum]
  refine Finset.sum_congr rfl fun j _ => ?_
  rw [hf, EReal.coe_mul]
  refine congrArg _ ?_
  have ht := A.taps
  split_ifs with hin
  · refine (A.inside wf x v hp hu j (ix5 b h w e c) (ix5 b ⟨h + j - r, by omega⟩ w e c) fun q => ?_).trans (X _ _ _ _ _)
    fin_cases q
    · show b.val + 0 = 0 + b.val
      omega
    · show h.val + j.val - r + r = j.val + h.val
      omega
    · show w.val + 0 = 0 + w.val
      omega
    · show e.val + 0 = 0 + e.val
      omega
    · show c.val + 0 = 0 + c.val
      omega
  · exact (A.outside wf x v hp hu j (ix5 b h w e c) hin).trans (hv _)

/-- The blur along the columns. -/
theorem blur_cols (A : Along T C r s lo hi interior idx 2) :
    Holds (Host.dotGeneral d none f (Host.gather (windowDims T C s wf) (pad ⟨5, s⟩ lo hi interior x v hp hu) idx))
      (fun b c h w e => cols r fr (fun h w => G b c h w e) h w) := by
  intro b h w e c
  rw [D]
  unfold cols
  rw [coe_sum]
  refine Finset.sum_congr rfl fun j _ => ?_
  rw [hf, EReal.coe_mul]
  refine congrArg _ ?_
  have ht := A.taps
  split_ifs with hin
  · refine (A.inside wf x v hp hu j (ix5 b h w e c) (ix5 b h ⟨w + j - r, by omega⟩ e c) fun q => ?_).trans (X _ _ _ _ _)
    fin_cases q
    · show b.val + 0 = 0 + b.val
      omega
    · show h.val + 0 = 0 + h.val
      omega
    · show w.val + j.val - r + r = j.val + w.val
      omega
    · show e.val + 0 = 0 + e.val
      omega
    · show c.val + 0 = 0 + c.val
      omega
  · exact (A.outside wf x v hp hu j (ix5 b h w e c) hin).trans (hv _)

end Blur

/-- The blur along the range axis. -/
theorem blur_planes (wf : GatherDims.WF ⟨5, s⟩ ⟨2, ![13, 5]⟩ (Windows 13 C) [1, 2, 3, 4, 5] [] [] [0, 1, 2, 3, 4] [] 1
      ![2, 512, 512, 32, C])
    {d : DotDims ⟨1, ![13]⟩ (Windows 13 C) (Grid C)} (D : Blurs 13 C d)
    {x : FVec Ideal (Grid C) .f32} {G : ℕ → ℕ → ℕ → ℕ → ℕ → ℝ} (X : Holds x G)
    {v : FVec Ideal u .f32} (hv : ∀ i, v i = ((0 : ℝ) : EReal)) (hp : (Grid C).Pads lo hi interior ⟨5, s⟩) (hu : 0 < u.numel)
    {f : FVec Ideal ⟨1, ![13]⟩ .f32} {fr : Fin 13 → ℝ} (hf : ∀ t, f (ix1 t) = ((fr t : ℝ) : EReal))
    {idx : IVec ⟨2, ![13, 5]⟩ 32} (A : Along 13 C 6 s lo hi interior idx 3) :
    Holds (Host.dotGeneral d none f (Host.gather (windowDims 13 C s wf) (pad ⟨5, s⟩ lo hi interior x v hp hu) idx))
      (fun b c h w e => planes fr (fun d => G b c h w d) e) := by
  intro b h w e c
  rw [D]
  unfold planes
  rw [coe_sum]
  refine Finset.sum_congr rfl fun j _ => ?_
  rw [hf, EReal.coe_mul]
  refine congrArg _ ?_
  split_ifs with hin
  · refine (A.inside wf x v hp hu j (ix5 b h w e c) (ix5 b h w ⟨e + j - 6, by omega⟩ c) fun q => ?_).trans (X _ _ _ _ _)
    fin_cases q
    · show b.val + 0 = 0 + b.val
      omega
    · show h.val + 0 = 0 + h.val
      omega
    · show w.val + 0 = 0 + w.val
      omega
    · show e.val + j.val - 6 + 6 = j.val + e.val
      omega
    · show c.val + 0 = 0 + c.val
      omega
  · exact (A.outside wf x v hp hu j (ix5 b h w e c) hin).trans (hv _)

/-- The four contractions of the reference's blurs. -/
theorem blurs13_2 : Blurs 13 2 dot_S13_S13x2x512x512x32x2_S2x512x512x32x2_0_0_n_12345_n_n := by
  intro f x b h w e c
  pointwise

theorem blurs61_3 : Blurs 61 3 dot_S61_S61x2x512x512x32x3_S2x512x512x32x3_0_0_n_12345_n_n := by
  intro f x b h w e c
  pointwise

theorem blurs13_3 : Blurs 13 3 dot_S13_S13x2x512x512x32x3_S2x512x512x32x3_0_0_n_12345_n_n := by
  intro f x b h w e c
  pointwise

end Cert.Proof.GridRead

end
-- ==== Proof.RefStage.lean ====
/- The reference's pieces read at an index: the guide's plane numbers, the two plane masks, the grid, the slice. -/
module

public import proofs.«01_k».proof.Proof.GridRead

@[expose] public section

set_option maxRecDepth 16384

noncomputable section

namespace Cert.Proof.RefStage

open Idealize Idealize.ShloMosaic Cert.ReferenceIdeal Cert.ReferenceIdeal.Gen Cert.ReferenceIdeal.Value
open Cert.Proof.Model Cert.Proof.Tile Cert.Proof.Spec Cert.Proof.GridRead
open scoped BigOperators

/-- The array holds the real numbers `G`. -/
def Plane (x : FVec Ideal S2x512x512 .f32) (G : ℕ → ℕ → ℕ → ℝ) : Prop :=
  ∀ (b : Fin 2) (h w : Fin 512), x (ix3 b h w) = ((G b h w : ℝ) : EReal)

/-- The guide clipped to the unit interval once and scaled to the range axis. -/
theorem clip_once (y : ℝ) :
    min (Ideal.ofBits .f32 0x3F800000#32) (max (Ideal.ofBits .f32 0x00000000#32) ((y : ℝ) : EReal))
      * Ideal.ofBits .f32 0x41F80000#32 = ((zOf y : ℝ) : EReal) := by
  rw [ofBits_one, ofBits_nil, ofBits_top, ← coe_max, ← coe_min, ← EReal.coe_mul, max_comm, min_comm]
  rfl

/-- Clipping twice is clipping once. -/
theorem clip_twice (y : ℝ) :
    min (Ideal.ofBits .f32 0x3F800000#32) (max (Ideal.ofBits .f32 0x00000000#32)
      (min (Ideal.ofBits .f32 0x3F800000#32) (max (Ideal.ofBits .f32 0x00000000#32) ((y : ℝ) : EReal))))
      * Ideal.ofBits .f32 0x41F80000#32 = ((zOf y : ℝ) : EReal) := by
  rw [← clip_once]
  refine congrArg (· * _) ?_
  rw [ofBits_one, ofBits_nil, max_eq_right]
  · rw [min_eq_right (min_le_left _ _)]
  · exact le_min (by exact_mod_cast zero_le_one) (le_max_left _ _)

/-- The lower plane's number, as a word. -/
theorem word_low {z : ℝ} (h0 : 0 ≤ z) (h1 : z ≤ 31) :
    IntOp.minsi 30#32 (IntOp.maxsi 0#32 (Ideal.fptosi 32 (Ideal.liftRound Int.floor ((z : ℝ) : EReal))))
      = BitVec.ofNat 32 (low z) := by
  have hf : 0 ≤ ⌊z⌋ := Int.floor_nonneg.mpr h0
  have hg : ⌊z⌋ ≤ 31 := by
    have : (⌊z⌋ : ℝ) ≤ 31 := (Int.floor_le z).trans h1
    exact_mod_cast this
  have hl := low_cast z
  rw [Ideal.liftRound_coe, Ideal.fptosi, Ideal.toIntClamped_coe]
  generalize ⌊z⌋ = n at *
  have hn : (if (0 : ℝ) ≤ (n : ℝ) then ⌊(n : ℝ)⌋ else ⌈(n : ℝ)⌉) = n := by
    rw [if_pos (by exact_mod_cast hf), Int.floor_intCast]
  rw [hn]
  obtain ⟨k, rfl⟩ := Int.eq_ofNat_of_zero_le hf
  have hk : low z = min k 30 := by omega
  rw [hk]
  have hk' : k < 32 := by omega
  exact (by decide +kernel : ∀ k : Fin 32, IntOp.minsi 30#32 (IntOp.maxsi 0#32
    (BitVec.ofInt 32 (max (-(2 ^ (32 - 1) : Nat)) (min ((2 ^ (32 - 1) : Nat) - 1) (k.val : ℤ))))) = BitVec.ofNat 32 (min k.val 30))
    ⟨k, hk'⟩

/-- The mask bit of equal plane numbers, as a real number. -/
theorem mask_word {a e : ℕ} (ha : a < 100) (he : e < 100) :
    (FloatOps.uitofp (F := Ideal) .f32 (IntOp.cmpi .eq (BitVec.ofNat 32 a) (BitVec.ofNat 32 e)) : EReal)
      = (((if a = e then 1 else 0) : ℝ) : EReal) := by
  have hiff : BitVec.ofNat 32 a = BitVec.ofNat 32 e ↔ a = e := by
    rw [← BitVec.toNat_inj]
    simp only [BitVec.toNat_ofNat]
    omega
  show ((((IntOp.cmpi .eq (BitVec.ofNat 32 a) (BitVec.ofNat 32 e)).toNat : ℕ) : ℝ) : EReal) = _
  by_cases h : a = e
  · rw [if_pos h, h]
    simp [IntOp.cmpi]
  · rw [if_neg h]
    have : (BitVec.ofNat 32 a == BitVec.ofNat 32 e) = false := by
      rw [beq_eq_false_iff_ne]
      exact fun hh => h (hiff.1 hh)
    simp only [IntOp.cmpi]
    rw [this]
    simp

/-- A small word read as a number. -/
theorem number_word {a : ℕ} (ha : a < 100) :
    (FloatOps.sitofp (F := Ideal) .f32 (BitVec.ofNat 32 a) : EReal) = (((a : ℕ) : ℝ) : EReal) := by
  show (((BitVec.ofNat 32 a).toInt : ℝ) : EReal) = _
  rw [BitVec.toInt_eq_toNat_of_lt (by rw [BitVec.toNat_ofNat]; omega), BitVec.toNat_ofNat, Nat.mod_eq_of_lt (by omega)]
  simp

/-- The lower plane's number of a scaled guide. -/
def lowA (z : FVec Ideal S2x512x512 .f32) : IVec S2x512x512 32 :=
  minsi (broadcastInDim S2x512x512 ![] bcast_S_S2x512x512 (id (constantI S_ 32 30#32)))
    (maxsi (broadcastInDim S2x512x512 ![] bcast_S_S2x512x512 (id (constantI S_ 32 0#32))) (fptosi 32 (Host.floor z)))

/-- The place of a scaled guide between its two planes. -/
def fracA (z : FVec Ideal S2x512x512 .f32) : FVec Ideal S2x512x512x1 .f32 :=
  broadcastInDim S2x512x512x1 ![0, 1, 2] bcast_S2x512x512_S2x512x512x1_0_1_2 (subf z (sitofp .f32 (lowA z)))

/-- The mask of one plane number per pixel. -/
def maskA (n : IVec S2x512x512 32) : FVec Ideal S2x512x512x32x1 .f32 :=
  broadcastInDim S2x512x512x32x1 ![0, 1, 2, 3] bcast_S2x512x512x32_S2x512x512x32x1_0_1_2_3 (uitofp .f32 (cmpi .eq
    (broadcastInDim S2x512x512x32 ![0, 1, 2, 3] bcast_S2x512x512x1_S2x512x512x32_0_1_2_3
      (broadcastInDim S2x512x512x1 ![0, 1, 2] bcast_S2x512x512_S2x512x512x1_0_1_2 n))
    (broadcastInDim S2x512x512x32 ![0, 1, 2, 3] bcast_S1x1x1x32_S2x512x512x32_0_1_2_3 (iotaInDim S1x1x1x32 32 3))))

/-- The plane above. -/
def nextA (n : IVec S2x512x512 32) : IVec S2x512x512 32 :=
  addi n (broadcastInDim S2x512x512 ![] bcast_S_S2x512x512 (constantI S_ 32 1#32))

section Guide
variable {z : FVec Ideal S2x512x512 .f32} {zs : ℕ → ℕ → ℕ → ℝ} (Z : Plane z zs) (hz : ∀ b h w, 0 ≤ zs b h w ∧ zs b h w ≤ 31)
include Z hz

theorem lowA_apply (b : Fin 2) (h w : Fin 512) : lowA z (ix3 b h w) = BitVec.ofNat 32 (low (zs b h w)) := by
  unfold lowA
  pointwise
  rw [Z]
  exact word_low (hz _ _ _).1 (hz _ _ _).2

theorem fracA_apply (b : Fin 2) (h w : Fin 512) :
    fracA z (ix4 b h w 0) = ((zs b h w - low (zs b h w) : ℝ) : EReal) := by
  unfold fracA
  pointwise
  have hl := (low_bounds (hz b h w).1 (hz b h w).2).2.2
  rw [Z, lowA_apply Z hz, number_word (by omega), ← EReal.coe_sub]

theorem mask0_apply (b : Fin 2) (h w : Fin 512) (e : Fin 32) :
    maskA (lowA z) (ix5 b h w e 0) = ((if low (zs b h w) = e then 1 else 0 : ℝ) : EReal) := by
  unfold maskA
  pointwise
  have hl := (low_bounds (hz b h w).1 (hz b h w).2).2.2
  rw [lowA_apply Z hz]
  exact mask_word (by omega) (by omega)

theorem mask1_apply (b : Fin 2) (h w : Fin 512) (e : Fin 32) :
    maskA (nextA (lowA z)) (ix5 b h w e 0) = ((if low (zs b h w) + 1 = e then 1 else 0 : ℝ) : EReal) := by
  unfold maskA nextA
  pointwise
  have hl := (low_bounds (hz b h w).1 (hz b h w).2).2.2
  rw [lowA_apply Z hz]
  refine Eq.trans (congrArg (fun n => (FloatOps.uitofp (F := Ideal) .f32 (IntOp.cmpi .eq n (BitVec.ofNat 32 e)) : EReal)) ?_)
    (mask_word (by omega) (by omega))
  show BitVec.ofNat 32 (low (zs b h w)) + BitVec.ofNat 32 1 = _
  rw [BitVec.ofNat_add_ofNat]

end Guide

/-- The grid of two channels: the values shared between the two planes of each pixel. -/
def grid2 (m0 m1 : FVec Ideal S2x512x512x32x1 .f32) (t : FVec Ideal S2x512x512x1 .f32) (x : FVec Ideal S2x512x512x2 .f32) :
    FVec Ideal S2x512x512x32x2 .f32 :=
  addf (mulf (broadcastInDim S2x512x512x32x2 ![0, 1, 2, 3, 4] bcast_S2x512x512x32x1_S2x512x512x32x2_0_1_2_3_4 m0)
      (broadcastInDim S2x512x512x32x2 ![0, 1, 2, 3, 4] bcast_S2x512x512x1x2_S2x512x512x32x2_0_1_2_3_4
        (broadcastInDim S2x512x512x1x2 ![0, 1, 2, 4] bcast_S2x512x512x2_S2x512x512x1x2_0_1_2_4
          (mulf x (broadcastInDim S2x512x512x2 ![0, 1, 2, 3] bcast_S2x512x512x1_S2x512x512x2_0_1_2_3
            (subf (broadcastInDim S2x512x512x1 ![] bcast_S_S2x512x512x1 (constant S_ .f32 0x3F800000#32)) t))))))
    (mulf (broadcastInDim S2x512x512x32x2 ![0, 1, 2, 3, 4] bcast_S2x512x512x32x1_S2x512x512x32x2_0_1_2_3_4 m1)
      (broadcastInDim S2x512x512x32x2 ![0, 1, 2, 3, 4] bcast_S2x512x512x1x2_S2x512x512x32x2_0_1_2_3_4
        (broadcastInDim S2x512x512x1x2 ![0, 1, 2, 4] bcast_S2x512x512x2_S2x512x512x1x2_0_1_2_4
          (mulf x (broadcastInDim S2x512x512x2 ![0, 1, 2, 3] bcast_S2x512x512x1_S2x512x512x2_0_1_2_3 t)))))

/-- The slice of two channels: the blurred grid read back at the two planes of each pixel. -/
def slice2 (m0 m1 : FVec Ideal S2x512x512x32x1 .f32) (t : FVec Ideal S2x512x512x1 .f32) (g : FVec Ideal S2x512x512x32x2 .f32) :
    FVec Ideal S2x512x512x2 .f32 :=
  addf (mulf (Host.reduceAdd (mulf g (broadcastInDim S2x512x512x32x2 ![0, 1, 2, 3, 4]
          bcast_S2x512x512x32x1_S2x512x512x32x2_0_1_2_3_4 m0)) (constant S_ .f32 0x00000000#32)
          reducesTo_S2x512x512x32x2_S2x512x512x2_d3 h_S_)
      (broadcastInDim S2x512x512x2 ![0, 1, 2, 3] bcast_S2x512x512x1_S2x512x512x2_0_1_2_3
        (subf (broadcastInDim S2x512x512x1 ![] bcast_S_S2x512x512x1 (constant S_ .f32 0x3F800000#32)) t)))
    (mulf (Host.reduceAdd (mulf g (broadcastInDim S2x512x512x32x2 ![0, 1, 2, 3, 4]
          bcast_S2x512x512x32x1_S2x512x512x32x2_0_1_2_3_4 m1)) (constant S_ .f32 0x00000000#32)
          reducesTo_S2x512x512x32x2_S2x512x512x2_d3 h_S_)
      (broadcastInDim S2x512x512x2 ![0, 1, 2, 3] bcast_S2x512x512x1_S2x512x512x2_0_1_2_3 t))

/-- The grid of three channels: the values shared between the two planes of each pixel. -/
def grid3 (m0 m1 : FVec Ideal S2x512x512x32x1 .f32) (t : FVec Ideal S2x512x512x1 .f32) (x : FVec Ideal S2x512x512x3 .f32) :
    FVec Ideal S2x512x512x32x3 .f32 :=
  addf (mulf (broadcastInDim S2x512x512x32x3 ![0, 1, 2, 3, 4] bcast_S2x512x512x32x1_S2x512x512x32x3_0_1_2_3_4 m0)
      (broadcastInDim S2x512x512x32x3 ![0, 1, 2, 3, 4] bcast_S2x512x512x1x3_S2x512x512x32x3_0_1_2_3_4
        (broadcastInDim S2x512x512x1x3 ![0, 1, 2, 4] bcast_S2x512x512x3_S2x512x512x1x3_0_1_2_4
          (mulf x (broadcastInDim S2x512x512x3 ![0, 1, 2, 3] bcast_S2x512x512x1_S2x512x512x3_0_1_2_3
            (subf (broadcastInDim S2x512x512x1 ![] bcast_S_S2x512x512x1 (constant S_ .f32 0x3F800000#32)) t))))))
    (mulf (broadcastInDim S2x512x512x32x3 ![0, 1, 2, 3, 4] bcast_S2x512x512x32x1_S2x512x512x32x3_0_1_2_3_4 m1)
      (broadcastInDim S2x512x512x32x3 ![0, 1, 2, 3, 4] bcast_S2x512x512x1x3_S2x512x512x32x3_0_1_2_3_4
        (broadcastInDim S2x512x512x1x3 ![0, 1, 2, 4] bcast_S2x512x512x3_S2x512x512x1x3_0_1_2_4
          (mulf x (broadcastInDim S2x512x512x3 ![0, 1, 2, 3] bcast_S2x512x512x1_S2x512x512x3_0_1_2_3 t)))))

/-- The slice of three channels: the blurred grid read back at the two planes of each pixel. -/
def slice3 (m0 m1 : FVec Ideal S2x512x512x32x1 .f32) (t : FVec Ideal S2x512x512x1 .f32) (g : FVec Ideal S2x512x512x32x3 .f32) :
    FVec Ideal S2x512x512x3 .f32 :=
  addf (mulf (Host.reduceAdd (mulf g (broadcastInDim S2x512x512x32x3 ![0, 1, 2, 3, 4]
          bcast_S2x512x512x32x1_S2x512x512x32x3_0_1_2_3_4 m0)) (constant S_ .f32 0x00000000#32)
          reducesTo_S2x512x512x32x3_S2x512x512x3_d3 h_S_)
      (broadcastInDim S2x512x512x3 ![0, 1, 2, 3] bcast_S2x512x512x1_S2x512x512x3_0_1_2_3
        (subf (broadcastInDim S2x512x512x1 ![] bcast_S_S2x512x512x1 (constant S_ .f32 0x3F800000#32)) t)))
    (mulf (Host.reduceAdd (mulf g (broadcastInDim S2x512x512x32x3 ![0, 1, 2, 3, 4]
          bcast_S2x512x512x32x1_S2x512x512x32x3_0_1_2_3_4 m1)) (constant S_ .f32 0x00000000#32)
          reducesTo_S2x512x512x32x3_S2x512x512x3_d3 h_S_)
      (broadcastInDim S2x512x512x3 ![0, 1, 2, 3] bcast_S2x512x512x1_S2x512x512x3_0_1_2_3 t))

/-- One entry of the grid, over the real numbers. -/
theorem grid_math {z : ℝ} (h0 : 0 ≤ z) (h1 : z ≤ 31) (e : ℕ) (x : ℝ) :
    (((if low z = e then 1 else 0) : ℝ) : EReal) * (((x : ℝ) : EReal) * (1 - ((z - low z : ℝ) : EReal)))
      + (((if low z + 1 = e then 1 else 0) : ℝ) : EReal) * (((x : ℝ) : EReal) * ((z - low z : ℝ) : EReal))
    = ((hat z e * x : ℝ) : EReal) := by
  rw [← EReal.coe_one, ← EReal.coe_sub, ← EReal.coe_mul, ← EReal.coe_mul, ← EReal.coe_mul, ← EReal.coe_mul, ← EReal.coe_add,
    ← two_planes h0 h1]
  refine congrArg _ ?_
  ring

/-- One entry of the slice, over the real numbers. -/
theorem slice_math {z : ℝ} (h0 : 0 ≤ z) (h1 : z ≤ 31) (g : Fin 32 → ℝ) :
    (∑ e : Fin 32, ((g e : ℝ) : EReal) * (((if low z = e then 1 else 0) : ℝ) : EReal)) * (1 - ((z - low z : ℝ) : EReal))
      + (∑ e : Fin 32, ((g e : ℝ) : EReal) * (((if low z + 1 = e then 1 else 0) : ℝ) : EReal)) * ((z - low z : ℝ) : EReal)
    = ((∑ e : Fin 32, hat z e * g e : ℝ) : EReal) := by
  simp only [← EReal.coe_one, ← EReal.coe_sub, ← EReal.coe_mul, ← coe_sum, ← EReal.coe_add]
  refine congrArg _ ?_
  rw [Finset.sum_mul, Finset.sum_mul, ← Finset.sum_add_distrib]
  refine Finset.sum_congr rfl fun e _ => ?_
  rw [← two_planes h0 h1]
  ring

section Entries
variable {z : FVec Ideal S2x512x512 .f32} {zs : ℕ → ℕ → ℕ → ℝ} (Z : Plane z zs) (hz : ∀ b h w, 0 ≤ zs b h w ∧ zs b h w ≤ 31)
include Z hz

theorem grid2_holds {x : FVec Ideal S2x512x512x2 .f32} {U : ℕ → ℕ → ℕ → ℕ → ℝ}
    (X : ∀ (b : Fin 2) (h w : Fin 512) (c : Fin 2), x (ix4 b h w c) = ((U b c h w : ℝ) : EReal)) :
    Holds (C := 2) (grid2 (maskA (lowA z)) (maskA (nextA (lowA z))) (fracA z) x)
      (fun b c h w e => hat (zs b h w) e * U b c h w) := by
  intro b h w e c
  unfold grid2
  pointwise
  rw [mask0_apply Z hz, mask1_apply Z hz, fracA_apply Z hz, X]
  exact grid_math (hz _ _ _).1 (hz _ _ _).2 _ _

theorem grid3_holds {x : FVec Ideal S2x512x512x3 .f32} {U : ℕ → ℕ → ℕ → ℕ → ℝ}
    (X : ∀ (b : Fin 2) (h w : Fin 512) (c : Fin 3), x (ix4 b h w c) = ((U b c h w : ℝ) : EReal)) :
    Holds (C := 3) (grid3 (maskA (lowA z)) (maskA (nextA (lowA z))) (fracA z) x)
      (fun b c h w e => hat (zs b h w) e * U b c h w) := by
  intro b h w e c
  unfold grid3
  pointwise
  rw [mask0_apply Z hz, mask1_apply Z hz, fracA_apply Z hz, X]
  exact grid_math (hz _ _ _).1 (hz _ _ _).2 _ _

theorem slice2_apply {g : FVec Ideal S2x512x512x32x2 .f32} {G : ℕ → ℕ → ℕ → ℕ → ℕ → ℝ} (X : Holds (C := 2) g G)
    (b : Fin 2) (h w : Fin 512) (c : Fin 2) :
    slice2 (maskA (lowA z)) (maskA (nextA (lowA z))) (fracA z) g (ix4 b h w c)
      = ((∑ e : Fin 32, hat (zs b h w) e * G b c h w e : ℝ) : EReal) := by
  unfold slice2
  pointwise
  simp only [X b h w _ c, mask0_apply Z hz, mask1_apply Z hz, fracA_apply Z hz]
  exact slice_math (hz _ _ _).1 (hz _ _ _).2 _

theorem slice3_apply {g : FVec Ideal S2x512x512x32x3 .f32} {G : ℕ → ℕ → ℕ → ℕ → ℕ → ℝ} (X : Holds (C := 3) g G)
    (b : Fin 2) (h w : Fin 512) (c : Fin 3) :
    slice3 (maskA (lowA z)) (maskA (nextA (lowA z))) (fracA z) g (ix4 b h w c)
      = ((∑ e : Fin 32, hat (zs b h w) e * G b c h w e : ℝ) : EReal) := by
  unfold slice3
  pointwise
  simp only [X b h w _ c, mask0_apply Z hz, mask1_apply Z hz, fracA_apply Z hz]
  exact slice_math (hz _ _ _).1 (hz _ _ _).2 _

end Entries

end Cert.Proof.RefStage

end
-- ==== Proof.RefValue.lean ====
/- The reference's result, from the launch contents of its arguments. -/
module

public import proofs.«01_k».proof.Proof.RefStage

@[expose] public section

set_option maxRecDepth 16384

noncomputable section

namespace Cert.Proof.RefValue

open Idealize Idealize.ShloMosaic Cert.ReferenceIdeal Cert.ReferenceIdeal.Gen Cert.ReferenceIdeal.Value
open Cert.Proof.Model Cert.Proof.Tile Cert.Proof.Spec Cert.Proof.GridRead Cert.Proof.RefStage
open scoped BigOperators

/-- The launch contents of the arguments are real: the image `P` and the four filters. -/
structure Args (V : Valuation τ sig (Elt Ideal)) (P : ℕ → Fin 3 → ℕ → ℕ → ℝ)
    (fs fr : Fin 13 → ℝ) (gs : Fin 61 → ℝ) (gr : Fin 13 → ℝ) : Prop where
  img : ∀ (b : Fin 2) (ch : Fin 3) (h w : Fin 512),
    (V (Proc.devRef .tc main_arg0) : FVec Ideal S2x3x512x512 .f32) (ix4 b ch h w) = ((P b.val ch h w : ℝ) : EReal)
  fs : ∀ t, (V (Proc.devRef .tc main_arg1) : FVec Ideal S13 .f32) (ix1 t) = ((fs t : ℝ) : EReal)
  fr : ∀ t, (V (Proc.devRef .tc main_arg2) : FVec Ideal S13 .f32) (ix1 t) = ((fr t : ℝ) : EReal)
  gs : ∀ t, (V (Proc.devRef .tc main_arg3) : FVec Ideal S61 .f32) (ix1 t) = ((gs t : ℝ) : EReal)
  gr : ∀ t, (V (Proc.devRef .tc main_arg4) : FVec Ideal S13 .f32) (ix1 t) = ((gr t : ℝ) : EReal)

variable {V : Valuation τ sig (Elt Ideal)} {P : ℕ → Fin 3 → ℕ → ℕ → ℝ} {fs fr : Fin 13 → ℝ} {gs : Fin 61 → ℝ} {gr : Fin 13 → ℝ}

/-- A row of a colour matrix against three channels. -/
theorem mix_sum (k : Fin 3 → BitVec 32) {x l : Fin 3 → EReal} {p : Fin 3 → ℝ} (hx : ∀ i, x i = ((p i : ℝ) : EReal))
    (hl : ∀ i, l i = ((num (k i) : ℝ) : EReal)) :
    ∑ i, x i * l i = ((num (k 0) * p 0 + num (k 1) * p 1 + num (k 2) * p 2 : ℝ) : EReal) := by
  simp only [hx, hl, ← EReal.coe_mul, ← coe_sum, Fin.sum_univ_three, mul_comm]

/-- One weighted channel. -/
theorem term_math {x l : EReal} {a k : ℝ} (hx : x = ((a : ℝ) : EReal)) (hl : l = ((k : ℝ) : EReal)) :
    x * l = ((k * a : ℝ) : EReal) := by
  rw [hx, hl, ← EReal.coe_mul, mul_comm]

/-- The same sum with the first channel standing apart from the other two. -/
theorem mix_split {x : Fin 1 → EReal} {y : Fin 2 → EReal} {p : ℝ} {q : Fin 2 → ℝ} (hx : ∀ i, x i = ((p : ℝ) : EReal))
    (hy : ∀ i, y i = ((q i : ℝ) : EReal)) : ∑ i, x i + ∑ i, y i = ((p + q 0 + q 1 : ℝ) : EReal) := by
  simp only [hx, hy, ← coe_sum, Fin.sum_univ_two, Fin.sum_univ_one, ← EReal.coe_add, add_assoc]

/-- The colour transform read at an index. -/
theorem yuv_apply (A : Args V P fs fr gs gr) (b : Fin 2) (c : Fin 3) (h w : Fin 512) :
    (res_main_v1 V : FVec Ideal S2x3x512x512 .f32) (ix4 b c h w) = ((yuv (P b) c h w : ℝ) : EReal) := by
  have hl : ∀ k : Fin 3, FloatOps.ofBits (F := Ideal) .f32 (lit0 (S3x3.rowMajor (ix2 c k))) = ((num (toYuv c k) : ℝ) : EReal) := by
    intro k
    refine Eq.trans (congrArg (Ideal.ofBits .f32) ?_) (ofBits_toYuv c k)
    revert c k
    decide +kernel
  unfold res_main_v1
  pointwise
  exact mix_sum (toYuv c) (fun k => A.img b k h w) hl

/-- The first stage's guide. -/
theorem guide1 (A : Args V P fs fr gs gr) : Plane (res_main_v7 V) (fun b h w => zOf (yuv (P b) 0 h w)) := by
  intro b h w
  unfold res_main_v7 res_main_v2
  pointwise
  rw [yuv_apply A]
  exact clip_twice _

/-- A window start that is never negative is itself. -/
theorem start_word (x : BitVec 32) {j : ℕ} (h : j < 61) :
    Scalar.select (IntOp.cmpi .slt (BitVec.ofNat 32 j) 0#32) x (BitVec.ofNat 32 j) = BitVec.ofNat 32 j := by
  rw [(by decide : ∀ j : Fin 61, IntOp.cmpi .slt (BitVec.ofNat 32 j.val) 0#32 = 0#1) ⟨j, h⟩]
  rfl

/-- The padding value is zero. -/
theorem pad_zero (i : S_.Idx) : (sitofp .f32 (constantI S_ 32 0#32) : FVec Ideal S_ .f32) i = ((0 : ℝ) : EReal) := by
  show (((0#32 : BitVec 32).toInt : ℝ) : EReal) = _
  simp

/-- The padding and the windows of axis `a` of a grid, from the start indices' five columns. -/
theorem along {T C r : ℕ} {s lo hi interior : Fin 5 → ℕ} {idx : IVec ⟨2, ![T, 5]⟩ 32} {a : Fin 5} (hT : T ≤ 2 * r + 1 ∧ r < 1000)
    (hs : ∀ b, s b = (Grid C).size b + if b = a then 2 * r else 0) (hl : ∀ b, lo b = if b = a then r else 0)
    (hi' : ∀ b, interior b = 0) (hst : ∀ (b : Fin 5) (j : Fin T), idx (ix2 j b) = BitVec.ofNat 32 (if b = a then j.val else 0)) :
    Along T C r s lo hi interior idx a :=
  ⟨hT, hs, hl, hi', fun j b => hst b j⟩

/-- The first stage's blurred grid. -/
theorem blurred1 (A : Args V P fs fr gs gr) {G : ℕ → ℕ → ℕ → ℕ → ℕ → ℝ}
    (X : Holds (C := 2) (grid2 (res_main_v18 V) (res_main_v22 V) (res_main_v13 V) (res_main_v16 V)) G) :
    Holds (C := 2) (res_main_v82 V) (fun b c h w e =>
      planes fr (fun d => cols 6 fs (rows 6 fs fun h w => G b c h w d) h w) e) := by
  unfold res_main_v82 res_main_v81
  refine blur_planes _ blurs13_2 (blur_cols _ blurs13_2 (blur_rows _ blurs13_2 X pad_zero _ _ A.fs ?_) pad_zero _ _ A.fs ?_)
    pad_zero _ _ A.fr ?_
  · refine along (by omega) (fun b => by fin_cases b <;> rfl) (fun b => by fin_cases b <;> rfl)
      (fun b => by fin_cases b <;> rfl) fun b j => ?_
    unfold res_main_v39
    fin_cases b <;> pointwise
    exact start_word _ (by omega)
  · refine along (by omega) (fun b => by fin_cases b <;> rfl) (fun b => by fin_cases b <;> rfl)
      (fun b => by fin_cases b <;> rfl) fun b j => ?_
    unfold res_main_v54
    fin_cases b <;> pointwise
    exact start_word _ (by omega)
  · refine along (by omega) (fun b => by fin_cases b <;> rfl) (fun b => by fin_cases b <;> rfl)
      (fun b => by fin_cases b <;> rfl) fun b j => ?_
    unfold res_main_v69
    fin_cases b <;> pointwise
    exact start_word _ (by omega)

/-- The second stage's blurred grid. -/
theorem blurred2 (A : Args V P fs fr gs gr) {G : ℕ → ℕ → ℕ → ℕ → ℕ → ℝ}
    (X : Holds (C := 3) (grid3 (res_main_v117 V) (res_main_v121 V) (res_main_v112 V) (res_main_v115 V)) G) :
    Holds (C := 3) (res_main_v181 V) (fun b c h w e =>
      planes gr (fun d => cols 30 gs (rows 30 gs fun h w => G b c h w d) h w) e) := by
  unfold res_main_v181 res_main_v180
  refine blur_planes _ blurs13_3 (blur_cols _ blurs61_3 (blur_rows _ blurs61_3 X pad_zero _ _ A.gs ?_) pad_zero _ _ A.gs ?_)
    pad_zero _ _ A.gr ?_
  · refine along (by omega) (fun b => by fin_cases b <;> rfl) (fun b => by fin_cases b <;> rfl)
      (fun b => by fin_cases b <;> rfl) fun b j => ?_
    unfold res_main_v138
    fin_cases b <;> pointwise
    exact start_word _ (by omega)
  · refine along (by omega) (fun b => by fin_cases b <;> rfl) (fun b => by fin_cases b <;> rfl)
      (fun b => by fin_cases b <;> rfl) fun b j => ?_
    unfold res_main_v153
    fin_cases b <;> pointwise
    exact start_word _ (by omega)
  · refine along (by omega) (fun b => by fin_cases b <;> rfl) (fun b => by fin_cases b <;> rfl)
      (fun b => by fin_cases b <;> rfl) fun b j => ?_
    unfold res_main_v168
    fin_cases b <;> pointwise
    exact start_word _ (by omega)

/-- The first stage's two channels: the luminance and the weight. -/
def chan1 (P : ℕ → Fin 3 → ℕ → ℕ → ℝ) (b c h w : ℕ) : ℝ := if c = 0 then yuv (P b) 0 h w else 1

/-- The second stage's three channels: the chrominances and the weight. -/
def chan2 (P : ℕ → Fin 3 → ℕ → ℕ → ℝ) (b c h w : ℕ) : ℝ :=
  if c = 0 then yuv (P b) 1 h w else if c = 1 then yuv (P b) 2 h w else 1

theorem vals1 (A : Args V P fs fr gs gr) (b : Fin 2) (h w : Fin 512) (c : Fin 2) :
    (res_main_v16 V : FVec Ideal S2x512x512x2 .f32) (ix4 b h w c) = ((chan1 P b c h w : ℝ) : EReal) := by
  unfold res_main_v16 res_main_v2
  fin_cases c <;> pointwise
  · exact yuv_apply A b 0 h w
  · rfl

theorem vals2 (A : Args V P fs fr gs gr) (b : Fin 2) (h w : Fin 512) (c : Fin 3) :
    (res_main_v115 V : FVec Ideal S2x512x512x3 .f32) (ix4 b h w c) = ((chan2 P b c h w : ℝ) : EReal) := by
  unfold res_main_v115
  fin_cases c <;> pointwise
  · exact yuv_apply A b 1 h w
  · exact yuv_apply A b 2 h w
  · rfl

theorem zOf_range (y : ℝ) : 0 ≤ zOf y ∧ zOf y ≤ 31 := ⟨zOf_nonneg y, zOf_le y⟩

/-- The first stage's slice, channel by channel. -/
theorem sliced1 (A : Args V P fs fr gs gr) (hfr : ∀ k, fr k = fr k.rev) (b : Fin 2) (h w : Fin 512) (c : Fin 2) :
    (res_main_v95 V : FVec Ideal S2x512x512x2 .f32) (ix4 b h w c)
      = ((viaBand 6 fs fr (fun h w => zOf (yuv (P b) 0 h w)) (chan1 P b c) h w : ℝ) : EReal) := by
  rw [← viaSlice_eq 6 fs fr hfr]
  exact slice2_apply (guide1 A) (fun _ _ _ => zOf_range _)
    (blurred1 A (grid2_holds (guide1 A) (fun _ _ _ => zOf_range _) (vals1 A))) b h w c

/-- A quotient over the floored weight. -/
theorem quot_math (a d : ℝ) :
    Ideal.div ((a : ℝ) : EReal) (max ((d : ℝ) : EReal) (Ideal.ofBits .f32 0x322BCC77#32)) = ((a / max d eps : ℝ) : EReal) := by
  have hpos : (0 : ℝ) < max d eps := lt_max_of_lt_right eps_spec.2
  rw [eps_spec.1, ← coe_max, Ideal.div_coe hpos.ne', ← EReal.coe_mul, mul_one_div]

/-- The smoothed luminance. -/
theorem lum_apply (A : Args V P fs fr gs gr) (hfr : ∀ k, fr k = fr k.rev) (b : Fin 2) (h w : Fin 512) :
    (res_main_v101 V : FVec Ideal S2x1x512x512 .f32) (ix4 b 0 h w) = ((lum fs fr (P b) h w : ℝ) : EReal) := by
  unfold res_main_v101
  pointwise
  rw [sliced1 A hfr, sliced1 A hfr]
  exact quot_math _ _

/-- The second stage's guide. -/
theorem guide2 (A : Args V P fs fr gs gr) (hfr : ∀ k, fr k = fr k.rev) :
    Plane (res_main_v106 V) (fun b h w => zOf (lum fs fr (P b) h w)) := by
  intro b h w
  unfold res_main_v106
  pointwise
  rw [lum_apply A hfr]
  exact clip_once _

/-- The second stage's slice, channel by channel. -/
theorem sliced2 (A : Args V P fs fr gs gr) (hfr : ∀ k, fr k = fr k.rev) (hgr : ∀ k, gr k = gr k.rev)
    (b : Fin 2) (h w : Fin 512) (c : Fin 3) :
    (res_main_v194 V : FVec Ideal S2x512x512x3 .f32) (ix4 b h w c)
      = ((viaBand 30 gs gr (fun h w => zOf (lum fs fr (P b) h w)) (chan2 P b c) h w : ℝ) : EReal) := by
  rw [← viaSlice_eq 30 gs gr hgr]
  exact slice3_apply (guide2 A hfr) (fun _ _ _ => zOf_range _)
    (blurred2 A (grid3_holds (guide2 A hfr) (fun _ _ _ => zOf_range _) (vals2 A))) b h w c

/-- The reference's result array. -/
theorem result_arr (A : Args V P fs fr gs gr) (hfr : ∀ k, fr k = fr k.rev) (hgr : ∀ k, gr k = gr k.rev) :
    (transpose S2x3x512x512 [0, 3, 1, 2] (Host.dotGeneral dot_S2x3x512x512_S3x3_S2x512x512x3_1_1_023_0_n_n none
      (concatenate S2x3x512x512 1 [⟨S2x1x512x512, (res_main_v101 V)⟩, ⟨S2x2x512x512, (transpose S2x2x512x512 [0, 3, 1, 2]
        (Host.divf (extractStridedSlice S2x512x512x2 ![0, 0, 0, 0] (res_main_v194 V) slices_S2x512x512x3_S2x512x512x2_0_0_0_0)
          (broadcastInDim S2x512x512x2 ![0, 1, 2, 3] bcast_S2x512x512x1_S2x512x512x2_0_1_2_3
            (maximumf (extractStridedSlice S2x512x512x1 ![0, 0, 0, 2] (res_main_v194 V) slices_S2x512x512x3_S2x512x512x1_0_0_0_2)
              (broadcastInDim S2x512x512x1 ![] bcast_S_S2x512x512x1 (constant S_ .f32 0x322BCC77#32)))))
        transposes_S2x512x512x2_S2x2x512x512_0_3_1_2)⟩] concatenates_S2x1x512x512_S2x2x512x512_S2x3x512x512_d1)
      ((fun i => FloatOps.ofBits .f32 (lit1 (S3x3.rowMajor i))))) transposes_S2x512x512x3_S2x3x512x512_0_3_1_2
        : FVec Ideal S2x3x512x512 .f32)
      = fun i => ((result fs fr gs gr (P (i 0).val) (i 1) (i 2).val (i 3).val : ℝ) : EReal) := by
  funext i
  obtain ⟨b, c, h, w, rfl⟩ : ∃ b c h w, i = ix4 b c h w := ⟨i 0, i 1, i 2, i 3, eq_ix4 i⟩
  have hl : ∀ k : Fin 3, FloatOps.ofBits (F := Ideal) .f32 (lit1 (S3x3.rowMajor (ix2 c k))) = ((num (toRgb c k) : ℝ) : EReal) := by
    intro k
    refine Eq.trans (congrArg (Ideal.ofBits .f32) ?_) (ofBits_toRgb c k)
    revert c k
    decide +kernel
  pointwise
  refine mix_split (p := num (toRgb c 0) * lum fs fr (P b) h w)
    (q := ![num (toRgb c 1) * smooth 30 gs gr (lum fs fr (P b)) (yuv (P b) 1) h w,
      num (toRgb c 2) * smooth 30 gs gr (lum fs fr (P b)) (yuv (P b) 2) h w]) (fun _ => ?_) fun k => ?_
  · exact term_math (lum_apply A hfr b h w) (hl 0)
  · have hq (k : Fin 3) := (congrArg₂ Ideal.div (sliced2 A hfr hgr b h w k)
      (congrArg (fun t => max t (Ideal.ofBits .f32 0x322BCC77#32)) (sliced2 A hfr hgr b h w 2))).trans (quot_math _ _)
    fin_cases k
    · exact term_math (hq 0) (hl 1)
    · exact term_math (hq 1) (hl 2)

end Cert.Proof.RefValue

end
-- ==== Proof.PreRead.lean ====
/- The precondition read back: every argument is a real number and both range filters are even. -/
module

public import proofs.«01_k».proof.Pre_finite_and_even
public import proofs.«01_k».proof.Proof.Spec
public import Idealize.ShloMosaic.Lib.ReduceAll
public import Idealize.ShloMosaic.Lib.StableHlo.Predicate

@[expose] public section

set_option maxRecDepth 16384

noncomputable section

namespace Cert.Proof.PreRead

open Idealize Idealize.ShloMosaic Cert.Pre_finite_and_even

/-- The precondition's side conditions. -/
instance facts : Cert.Pre_finite_and_even.Facts where
  bcast_S_S2x3x512x512 := by decide
  reducesTo_S2x3x512x512_S_d0_1_2_3 := by decide
  h_S_ := by decide
  bcast_S_S13 := by decide
  reducesTo_S13_S_d0 := by decide
  bcast_S_S61 := by decide
  reducesTo_S61_S_d0 := by decide

/-- A scalar has one index. -/
instance oneIdx : Subsingleton S_.Idx := ⟨fun _ _ => funext fun a => a.elim0⟩

/-- A number whose absolute value stays below some number is real. -/
theorem real_of_lt {x t : EReal} (h : Ideal.cmp .olt (max x (-x)) t = 1#1) : x = ((x.toReal : ℝ) : EReal) := by
  have hlt : max x (-x) < ⊤ := lt_of_lt_of_le (of_decide_eq_true ((StableHlo.Predicate.ofBool_eq_one_iff _).1 h)) le_top
  obtain ⟨h1, h2⟩ := max_lt_iff.1 hlt
  refine (EReal.coe_toReal h1.ne fun hb => ?_).symm
  rw [hb, EReal.neg_bot] at h2
  exact h2.ne rfl

/-- Two numbers that compare equal are equal. -/
theorem eq_of_oeq {x y : EReal} (h : Ideal.cmp .oeq x y = 1#1) : x = y :=
  of_decide_eq_true ((StableHlo.Predicate.ofBool_eq_one_iff _).1 h)

/-- An array reversed, at one place. -/
theorem reverse_at {n : ℕ} (x : FVec Ideal ⟨1, ![n]⟩ .f32) (k : Fin n) :
    Host.reverse (s := ⟨1, ![n]⟩) [0] x (ix1 k) = x (ix1 k.rev) := by
  refine congrArg x ?_
  funext a
  fin_cases a
  rfl

/-- What the precondition says of the five arguments. -/
theorem read {x0 : FVec Ideal S2x3x512x512 .f32} {x1 x2 : FVec Ideal S13 .f32} {x3 : FVec Ideal S61 .f32}
    {x4 : FVec Ideal S13 .f32} (h : fn (F := Ideal) x0 x1 x2 x3 x4 = fun _ => 1#1) :
    ((∀ i, x0 i = (((x0 i).toReal : ℝ) : EReal)) ∧ (∀ i, x1 i = (((x1 i).toReal : ℝ) : EReal))
      ∧ (∀ i, x2 i = (((x2 i).toReal : ℝ) : EReal)) ∧ (∀ i, x3 i = (((x3 i).toReal : ℝ) : EReal))
      ∧ (∀ i, x4 i = (((x4 i).toReal : ℝ) : EReal)))
    ∧ (∀ k : Fin 13, x2 (ix1 k) = x2 (ix1 k.rev)) ∧ ∀ k : Fin 13, x4 (ix1 k) = x4 (ix1 k.rev) := by
  have e := congrFun h ix0
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨⟨fun i => real_of_lt (Host.reduce_andi_all _ _ _ _ _ e0 i), fun i => real_of_lt (Host.reduce_andi_all _ _ _ _ _ e1 i),
      fun i => real_of_lt (Host.reduce_andi_all _ _ _ _ _ e2 i), fun i => real_of_lt (Host.reduce_andi_all _ _ _ _ _ e3 i),
      fun i => real_of_lt (Host.reduce_andi_all _ _ _ _ _ e4 i)⟩,
    fun k => (eq_of_oeq (Host.reduce_andi_all _ _ _ _ _ e5 (ix1 k))).trans (reverse_at x2 k),
    fun k => (eq_of_oeq (Host.reduce_andi_all _ _ _ _ _ e6 (ix1 k))).trans (reverse_at x4 k)⟩

end Cert.Proof.PreRead

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelValue
public import proofs.«01_k».proof.Proof.RefValue
public import proofs.«01_k».proof.Proof.PreRead
public import Idealize.ShloMosaic.Adequacy
public import Idealize.ShloMosaic.Init

@[expose] public section

noncomputable section

namespace Cert.Proof

open Idealize Idealize.ShloMosaic Idealize.SL.Sem Cert.Kernel

/-- The reference's run terminates with its arguments unchanged; it declares no semaphore, so every counter is zero. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- An image of extended reals as a real function of plain coordinates, which are wrapped into the image. -/
def plain (x : FVec Ideal ⟨4, ![2, 3, 512, 512]⟩ .f32) (b : ℕ) (ch : Fin 3) (h w : ℕ) : ℝ :=
  (x (ix4 (Fin.ofNat 2 b) ch (Fin.ofNat 512 h) (Fin.ofNat 512 w))).toReal

/-- A filter of extended reals as real numbers. -/
def taps {n : ℕ} (x : FVec Ideal ⟨1, ![n]⟩ .f32) (k : Fin n) : ℝ := (x (ix1 k)).toReal

/-- An image of real numbers, read back from its plain coordinates. -/
theorem plain_apply {x : FVec Ideal ⟨4, ![2, 3, 512, 512]⟩ .f32} (hx : ∀ i, x i = (((x i).toReal : ℝ) : EReal))
    (b : Fin 2) (ch : Fin 3) (h w : Fin 512) : x (ix4 b ch h w) = ((plain x b.val ch h w : ℝ) : EReal) := by
  have e {n : ℕ} [NeZero n] (k : Fin n) : Fin.ofNat n k.val = k := Fin.ext (Nat.mod_eq_of_lt k.isLt)
  refine (hx _).trans ?_
  unfold plain
  rw [e, e, e]

section Value

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- Under the precondition equal arguments of the kernel and of the reference are the same real numbers, with even range filters. -/
theorem same (c : Dev Cert.KernelIdeal.nD)
    (hp : Cert.Pre_KernelIdeal_finite_and_even m)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    ∃ (P : ℕ → Fin 3 → ℕ → ℕ → ℝ) (fs fr : Fin 13 → ℝ) (gs : Fin 61 → ℝ) (gr : Fin 13 → ℝ),
      KernelValue.Args m c P fs fr gs gr ∧ RefValue.Args (StableHlo.launchContents m' c) P fs fr gs gr
      ∧ (∀ k, fr k = fr k.rev) ∧ ∀ k, gr k = gr k.rev := by
  obtain ⟨⟨f0, f1, f2, f3, f4⟩, e2, e4⟩ := PreRead.read (hp c)
  obtain ⟨h0, h1, h2, h3, h4⟩ := h
  refine ⟨_, _, _, _, _, ⟨plain_apply f0, fun t => f1 (ix1 t), fun t => f2 (ix1 t), fun t => f3 (ix1 t), fun t => f4 (ix1 t)⟩,
    ⟨fun b ch x y => (congrFun h0 _).trans (plain_apply f0 b ch x y), fun t => (congrFun h1 _).trans (f1 (ix1 t)),
      fun t => (congrFun h2 _).trans (f2 (ix1 t)), fun t => (congrFun h3 _).trans (f3 (ix1 t)),
      fun t => (congrFun h4 _).trans (f4 (ix1 t))⟩,
    fun k => congrArg EReal.toReal (e2 k), fun k => congrArg EReal.toReal (e4 k)⟩

end Value

/-- The kernel's idealization and the reference end with equal results on equal arguments that meet the precondition. -/
theorem value : Cert.algebraic_KernelIdeal_ReferenceIdeal_pre_finite_and_even (hKernelIdeal := Cert.KernelIdeal.Gen.facts)
    (hReferenceIdeal := Cert.ReferenceIdeal.Gen.facts) (hPre_finite_and_even := PreRead.facts) := by
  intro m g m' g' hp hargs
  refine ⟨fun c => Cert.KernelIdeal.Gen.W12 m g c (Proc.devRef .tc Cert.KernelIdeal.main_v1111), KernelRun.run m g,
    (θ_run Cert.ReferenceIdeal.defs _ _).mono (fun r h c => ⟨(h c).1.trans ?_, (h c).2⟩)
      (Cert.ReferenceIdeal.Value.run (F := Ideal) m' g')⟩
  obtain ⟨P, fs, fr, gs, gr, A, B, hfr, hgr⟩ := same c hp (hargs c)
  exact (RefValue.result_arr B hfr hgr).trans (KernelValue.result_arr g A).symm

/-- Everything claimed. -/
theorem claim : Cert.Claim := ⟨Cert.Kernel.Gen.facts, Cert.KernelIdeal.Gen.facts, Cert.ReferenceIdeal.Gen.facts, PreRead.facts,
  fun m ρ _ => Cert.Kernel.Gen.frame m ρ, fun m ρ _ => Cert.KernelIdeal.Gen.frame m ρ,
  fun m ρ _ => Cert.KernelIdeal.Gen.frame m ρ, frame_ref, fun m ρ _ => frame_ref m ρ trivial, trivial, value⟩

end Cert.Proof

end
